-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v60) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)) (v3 : (c : Dev Cert.Kernel5Ideal.nD) → Buf (Elt Ideal) ((c.tc : Thread Cert.Kernel5Ideal.nD Cert.Kernel5Ideal.τ).loc Cert.Kernel5Ideal.main_v7_3)) (v4 : (c : Dev Cert.Kernel5Ideal.nD) → Buf (Elt Ideal) ((c.tc : Thread Cert.Kernel5Ideal.nD Cert.Kernel5Ideal.τ).loc Cert.Kernel5Ideal.main_v7_4)) (v5 : (c : Dev Cert.Kernel5Ideal.nD) → Buf (Elt Ideal) ((c.tc : Thread Cert.Kernel5Ideal.nD Cert.Kernel5Ideal.τ).loc Cert.Kernel5Ideal.main_v7_5)) (v6 : (c : Dev Cert.Kernel5Ideal.nD) → Buf (Elt Ideal) ((c.tc : Thread Cert.Kernel5Ideal.nD Cert.Kernel5Ideal.τ).loc Cert.Kernel5Ideal.main_v7_6)) (v7 : (c : Dev Cert.Kernel5Ideal.nD) → Buf (Elt Ideal) ((c.tc : Thread Cert.Kernel5Ideal.nD Cert.Kernel5Ideal.τ).loc Cert.Kernel5Ideal.main_v7_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_v7_2) = v2 c
          ∧ r.2.mem ((c.tc : Thread Cert.Kernel5Ideal.nD Cert.Kernel5Ideal.τ).loc Cert.Kernel5Ideal.main_v7_3) = v3 c
          ∧ r.2.mem ((c.tc : Thread Cert.Kernel5Ideal.nD Cert.Kernel5Ideal.τ).loc Cert.Kernel5Ideal.main_v7_4) = v4 c
          ∧ r.2.mem ((c.tc : Thread Cert.Kernel5Ideal.nD Cert.Kernel5Ideal.τ).loc Cert.Kernel5Ideal.main_v7_5) = v5 c
          ∧ r.2.mem ((c.tc : Thread Cert.Kernel5Ideal.nD Cert.Kernel5Ideal.τ).loc Cert.Kernel5Ideal.main_v7_6) = v6 c
          ∧ r.2.mem ((c.tc : Thread Cert.Kernel5Ideal.nD Cert.Kernel5Ideal.τ).loc Cert.Kernel5Ideal.main_v7_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v50) = v0 c
          ∧ r.2.mem ((c.tc : Thread Cert.Reference5Ideal.nD Cert.Reference5Ideal.τ).loc Cert.Reference5Ideal.main_v53) = v1 c
          ∧ r.2.mem ((c.tc : Thread Cert.Reference5Ideal.nD Cert.Reference5Ideal.τ).loc Cert.Reference5Ideal.main_v56) = v2 c
          ∧ r.2.mem ((c.tc : Thread Cert.Reference5Ideal.nD Cert.Reference5Ideal.τ).loc Cert.Reference5Ideal.main_v57) = v3 c
          ∧ r.2.mem ((c.tc : Thread Cert.Reference5Ideal.nD Cert.Reference5Ideal.τ).loc Cert.Reference5Ideal.main_v58) = v4 c
          ∧ r.2.mem ((c.tc : Thread Cert.Reference5Ideal.nD Cert.Reference5Ideal.τ).loc Cert.Reference5Ideal.main_v59) = v5 c
          ∧ r.2.mem ((c.tc : Thread Cert.Reference5Ideal.nD Cert.Reference5Ideal.τ).loc Cert.Reference5Ideal.main_v60) = v6 c
          ∧ r.2.mem ((c.tc : Thread Cert.Reference5Ideal.nD Cert.Reference5Ideal.τ).loc Cert.Reference5Ideal.main_v61) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel2.lean ====
abbrev S2x16384x2048 : Shape := ⟨3, ![2, 16384, 2048]⟩
abbrev S2x18432 : Shape := ⟨2, ![2, 18432]⟩
abbrev S2048 : Shape := ⟨1, ![2048]⟩
abbrev S2048x11264 : Shape := ⟨2, ![2048, 11264]⟩
abbrev S5632x2048 : Shape := ⟨2, ![5632, 2048]⟩
abbrev S2x9x2048 : Shape := ⟨3, ![2, 9, 2048]⟩
abbrev S1x2048 : Shape := ⟨2, ![1, 2048]⟩
abbrev S1x512x2048 : Shape := ⟨3, ![1, 512, 2048]⟩
abbrev S1x9x2048 : Shape := ⟨3, ![1, 9, 2048]⟩
abbrev S2048x512 : Shape := ⟨2, ![2048, 512]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩
abbrev S512x512 : Shape := ⟨2, ![512, 512]⟩

abbrev nBuf : Space → Nat
  | .hbm => 12
  | .vmem => 16
  | .smem => 0
  | _ => 0

abbrev bufTy : (tb : Table) → Fin (tcTables nBuf tb) → BufTy
  | .hbm, ⟨0, _⟩ => ⟨S2x16384x2048, .f32⟩
  | .hbm, ⟨1, _⟩ => ⟨S2x18432, .f32⟩
  | .hbm, ⟨2, _⟩ => ⟨S2048, .f32⟩
  | .hbm, ⟨3, _⟩ => ⟨S2048x11264, .f32⟩
  | .hbm, ⟨4, _⟩ => ⟨S5632x2048, .f32⟩
  | .hbm, ⟨5, _⟩ => ⟨S2048, .f32⟩
  | .hbm, ⟨6, _⟩ => ⟨S2x9x2048, .f32⟩
  | .hbm, ⟨7, _⟩ => ⟨S2048x11264, .bf16⟩
  | .hbm, ⟨8, _⟩ => ⟨S5632x2048, .bf16⟩
  | .hbm, ⟨9, _⟩ => ⟨S1x2048, .f32⟩
  | .hbm, ⟨10, _⟩ => ⟨S1x2048, .f32⟩
  | .hbm, ⟨11, _⟩ => ⟨S2x16384x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S1x512x2048, .f32⟩
  | .local _ .vmem, ⟨13, _⟩ => ⟨S1x512x2048, .f32⟩
  | .local _ .vmem, ⟨14, _⟩ => ⟨S512x2048, .bf16⟩
  | .local _ .vmem, ⟨15, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 32, 11], ![false, false, false]⟩

def k0_cond2 (i : grid0.Coords) : BitVec 1 :=
  let arg2 : BitVec 32 := BitVec.ofNat 32 (i 2).val
  let c10_i32 : BitVec 32 := 10#32
  let v22 : BitVec 1 := Scalar.cmpi .eq arg2 c10_i32
  let v23 : BitVec 32 := Scalar.extui v22
  let c0_i32_14 : BitVec 32 := 0#32
  let v24 : BitVec 1 := Scalar.cmpi .ne v23 c0_i32_14
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg2 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference2Ideal.lean ====
abbrev S2x16384x2048 : Shape := ⟨3, ![2, 16384, 2048]⟩
abbrev S2x18432 : Shape := ⟨2, ![2, 18432]⟩
abbrev S2048 : Shape := ⟨1, ![2048]⟩
abbrev S2048x11264 : Shape := ⟨2, ![2048, 11264]⟩
abbrev S5632x2048 : Shape := ⟨2, ![5632, 2048]⟩
abbrev S2x2048 : Shape := ⟨2, ![2, 2048]⟩
abbrev S2x1x2048 : Shape := ⟨3, ![2, 1, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x11264 : Shape := ⟨3, ![2, 16384, 11264]⟩
abbrev S2x16384x5632 : Shape := ⟨3, ![2, 16384, 5632]⟩

abbrev nBuf : Space → Nat
  | .hbm => 83
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x18432, .f32⟩
  | .hbm, ⟨2, _⟩ => ⟨S2048, .f32⟩
  | .hbm, ⟨3, _⟩ => ⟨S2048x11264, .f32⟩
  | .hbm, ⟨4, _⟩ => ⟨S5632x2048, .f32⟩
  | .hbm, ⟨5, _⟩ => ⟨S2048, .f32⟩
  | .hbm, ⟨6, _⟩ => ⟨S2x2048, .f32⟩
  | .hbm, ⟨7, _⟩ => ⟨S2x2048, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S2x1x2048, .f32⟩
  | .hbm, ⟨16, _⟩ => ⟨S2x1x2048, .f32⟩
  | .hbm, ⟨17, _⟩ => ⟨S2x1x2048, .f32⟩
  | .hbm, ⟨18, _⟩ => ⟨S2x1x2048, .f32⟩
  | .hbm, ⟨19, _⟩ => ⟨S2x1x2048, .f32⟩
  | .hbm, ⟨20, _⟩ => ⟨S2x1x2048, .f32⟩
  | .hbm, ⟨21, _⟩ => ⟨S2x1x2048, .f32⟩
  | .hbm, ⟨22, _⟩ => ⟨S2x1x2048, .f32⟩
  | .hbm, ⟨23, _⟩ => ⟨S2x1x2048, .f32⟩
  | .hbm, ⟨24, _⟩ => ⟨S2x16384x2048, .f32⟩
  | .hbm, ⟨25, _⟩ => ⟨S_, .f32⟩
  | .hbm, ⟨26, _⟩ => ⟨S2x16384, .f32⟩
  | .hbm, ⟨27, _⟩ => ⟨S2x16384x1, .f32⟩
  | .hbm, ⟨28, _⟩ => ⟨S_, .f32⟩
  | .hbm, ⟨29, _⟩ => ⟨S2x16384x1, .f32⟩
  | .hbm, ⟨30, _⟩ => ⟨S2x16384x1, .f32⟩
  | .hbm, ⟨31, _⟩ => ⟨S_, .f32⟩
  | .hbm, ⟨32, _⟩ => ⟨S2x16384x1, .f32⟩
  | .hbm, ⟨33, _⟩ => ⟨S2x16384x1, .f32⟩
  | .hbm, ⟨34, _⟩ => ⟨S2x16384x1, .f32⟩
  | .hbm, ⟨35, _⟩ => ⟨S2x16384x2048, .f32⟩
  | .hbm, ⟨36, _⟩ => ⟨S2x16384x2048, .f32⟩
  | .hbm, ⟨37, _⟩ => ⟨S1x1x2048, .f32⟩
  | .hbm, ⟨38, _⟩ => ⟨S2x16384x2048, .f32⟩
  | .hbm, ⟨39, _⟩ => ⟨S2x16384x2048, .f32⟩
  | .hbm, ⟨40, _⟩ => ⟨S_, .f32⟩
  | .hbm, ⟨41, _⟩ => ⟨S2x1x2048, .f32⟩
  | .hbm, ⟨42, _⟩ => ⟨S2x1x2048, .f32⟩
  | .hbm, ⟨43, _⟩ => ⟨S2x16384x2048, .f32⟩
  | .hbm, ⟨44, _⟩ => ⟨S2x16384x2048, .f32⟩
  | .hbm, ⟨45, _⟩ => ⟨S2x16384x2048, .f32⟩
  | .hbm, ⟨46, _⟩ => ⟨S2x16384x2048, .f32⟩
  | .hbm, ⟨47, _⟩ => ⟨S_, .f32⟩
  | .hbm, ⟨48, _⟩ => ⟨S2x1x2048, .f32⟩
  | .hbm, ⟨49, _⟩ => ⟨S2x1x2048, .f32⟩
  | .hbm, ⟨50, _⟩ => ⟨S2x16384x11264, .f32⟩
  | .hbm, ⟨51, _⟩ => ⟨S2x16384x5632, .f32⟩
  | .hbm, ⟨52, _⟩ => ⟨S2x16384x5632, .f32⟩
  | .hbm, ⟨53, _⟩ => ⟨S2x16384x5632, .f32⟩
  | .hbm, ⟨54, _⟩ => ⟨S2x16384x5632, .f32⟩
  | .hbm, ⟨55, _⟩ => ⟨S_, .f32⟩
  | .hbm, ⟨56, _⟩ => ⟨S2x16384x5632, .f32⟩
  | .hbm, ⟨57, _⟩ => ⟨S2x16384x5632, .f32⟩
  | .hbm, ⟨58, _⟩ => ⟨S_, .f32⟩
  | .hbm, ⟨59, _⟩ => ⟨S2x16384x5632, .f32⟩
  | .hbm, ⟨60, _⟩ => ⟨S2x16384x5632, .f32⟩
  | .hbm, ⟨61, _⟩ => ⟨S2x16384x5632, .f32⟩
  | .hbm, ⟨62, _⟩ => ⟨S2x16384x5632, .f32⟩
  | .hbm, ⟨63, _⟩ => ⟨S2x16384x2048, .f32⟩
  | .hbm, ⟨64, _⟩ => ⟨S2x16384x2048, .f32⟩
  | .hbm, ⟨65, _⟩ => ⟨S2x16384x2048, .f32⟩
  | .hbm, ⟨66, _⟩ => ⟨S2x16384x2048, .f32⟩
  | .hbm, ⟨67, _⟩ => ⟨S2x16384x2048, .f32⟩
  | .hbm, ⟨68, _⟩ => ⟨S_, .f32⟩
  | .hbm, ⟨69, _⟩ => ⟨S2x16384, .f32⟩
  | .hbm, ⟨70, _⟩ => ⟨S2x16384x1, .f32⟩
  | .hbm, ⟨71, _⟩ => ⟨S_, .f32⟩
  | .hbm, ⟨72, _⟩ => ⟨S2x16384x1, .f32⟩
  | .hbm, ⟨73, _⟩ => ⟨S2x16384x1, .f32⟩
  | .hbm, ⟨74, _⟩ => ⟨S_, .f32⟩
  | .hbm, ⟨75, _⟩ => ⟨S2x16384x1, .f32⟩
  | .hbm, ⟨76, _⟩ => ⟨S2x16384x1, .f32⟩
  | .hbm, ⟨77, _⟩ => ⟨S2x16384x1, .f32⟩
  | .hbm, ⟨78, _⟩ => ⟨S2x16384x2048, .f32⟩
  | .hbm, ⟨79, _⟩ => ⟨S2x16384x2048, .f32⟩
  | .hbm, ⟨80, _⟩ => ⟨S1x1x2048, .f32⟩
  | .hbm, ⟨81, _⟩ => ⟨S2x16384x2048, .f32⟩
  | .hbm, ⟨82, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_4 : Ref sig .tc := ⟨.hbm, 68, rfl⟩
abbrev main_v49 : Ref sig .tc := ⟨.hbm, 69, rfl⟩
abbrev main_v50 : Ref sig .tc := ⟨.hbm, 70, rfl⟩
abbrev main_cst_5 : Ref sig .tc := ⟨.hbm, 71, rfl⟩
abbrev main_v51 : Ref sig .tc := ⟨.hbm, 72, rfl⟩
abbrev main_v52 : Ref sig .tc := ⟨.hbm, 73, rfl⟩
abbrev main_cst_6 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== Kernel3.lean ====
abbrev S2x16384x2048 : Shape := ⟨3, ![2, 16384, 2048]⟩
abbrev S2x18432 : Shape := ⟨2, ![2, 18432]⟩
abbrev S2048 : Shape := ⟨1, ![2048]⟩
abbrev S2048x11264 : Shape := ⟨2, ![2048, 11264]⟩
abbrev S5632x2048 : Shape := ⟨2, ![5632, 2048]⟩
abbrev S2x9x2048 : Shape := ⟨3, ![2, 9, 2048]⟩
abbrev S1x2048 : Shape := ⟨2, ![1, 2048]⟩
abbrev S1x512x2048 : Shape := ⟨3, ![1, 512, 2048]⟩
abbrev S1x9x2048 : Shape := ⟨3, ![1, 9, 2048]⟩
abbrev S2048x512 : Shape := ⟨2, ![2048, 512]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩
abbrev S512x512 : Shape := ⟨2, ![512, 512]⟩

abbrev nBuf : Space → Nat
  | .hbm => 12
  | .vmem => 16
  | .smem => 0
  | _ => 0

abbrev bufTy : (tb : Table) → Fin (tcTables nBuf tb) → BufTy
  | .hbm, ⟨0, _⟩ => ⟨S2x16384x2048, .f32⟩
  | .hbm, ⟨1, _⟩ => ⟨S2x18432, .f32⟩
  | .hbm, ⟨2, _⟩ => ⟨S2048, .f32⟩
  | .hbm, ⟨3, _⟩ => ⟨S2048x11264, .f32⟩
  | .hbm, ⟨4, _⟩ => ⟨S5632x2048, .f32⟩
  | .hbm, ⟨5, _⟩ => ⟨S2048, .f32⟩
  | .hbm, ⟨6, _⟩ => ⟨S2x9x2048, .f32⟩
  | .hbm, ⟨7, _⟩ => ⟨S2048x11264, .bf16⟩
  | .hbm, ⟨8, _⟩ => ⟨S5632x2048, .bf16⟩
  | .hbm, ⟨9, _⟩ => ⟨S1x2048, .f32⟩
  | .hbm, ⟨10, _⟩ => ⟨S1x2048, .f32⟩
  | .hbm, ⟨11, _⟩ => ⟨S2x16384x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S1x512x2048, .f32⟩
  | .local _ .vmem, ⟨13, _⟩ => ⟨S1x512x2048, .f32⟩
  | .local _ .vmem, ⟨14, _⟩ => ⟨S512x2048, .bf16⟩
  | .local _ .vmem, ⟨15, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 32, 11], ![false, false, false]⟩

def k0_cond2 (i : grid0.Coords) : BitVec 1 :=
  let arg2 : BitVec 32 := BitVec.ofNat 32 (i 2).val
  let c10_i32 : BitVec 32 := 10#32
  let v22 : BitVec 1 := Scalar.cmpi .eq arg2 c10_i32
  let v23 : BitVec 32 := Scalar.extui v22
  let c0_i32_14 : BitVec 32 := 0#32
  let v24 : BitVec 1 := Scalar.cmpi .ne v23 c0_i32_14
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg2 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference3Ideal.lean ====
abbrev S2x16384x2048 : Shape := ⟨3, ![2, 16384, 2048]⟩
abbrev S2x18432 : Shape := ⟨2, ![2, 18432]⟩
abbrev S2048 : Shape := ⟨1, ![2048]⟩
abbrev S2048x11264 : Shape := ⟨2, ![2048, 11264]⟩
abbrev S5632x2048 : Shape := ⟨2, ![5632, 2048]⟩
abbrev S2x2048 : Shape := ⟨2, ![2, 2048]⟩
abbrev S2x1x2048 : Shape := ⟨3, ![2, 1, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x11264 : Shape := ⟨3, ![2, 16384, 11264]⟩
abbrev S2x16384x5632 : Shape := ⟨3, ![2, 16384, 5632]⟩

abbrev nBuf : Space → Nat
  | .hbm => 67
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x18432, .f32⟩
  | .hbm, ⟨2, _⟩ => ⟨S2048, .f32⟩
  | .hbm, ⟨3, _⟩ => ⟨S2048x11264, .f32⟩
  | .hbm, ⟨4, _⟩ => ⟨S5632x2048, .f32⟩
  | .hbm, ⟨5, _⟩ => ⟨S2048, .f32⟩
  | .hbm, ⟨6, _⟩ => ⟨S2x2048, .f32⟩
  | .hbm, ⟨7, _⟩ => ⟨S2x2048, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S2x1x2048, .f32⟩
  | .hbm, ⟨16, _⟩ => ⟨S2x1x2048, .f32⟩
  | .hbm, ⟨17, _⟩ => ⟨S2x1x2048, .f32⟩
  | .hbm, ⟨18, _⟩ => ⟨S2x1x2048, .f32⟩
  | .hbm, ⟨19, _⟩ => ⟨S2x1x2048, .f32⟩
  | .hbm, ⟨20, _⟩ => ⟨S2x1x2048, .f32⟩
  | .hbm, ⟨21, _⟩ => ⟨S2x1x2048, .f32⟩
  | .hbm, ⟨22, _⟩ => ⟨S2x1x2048, .f32⟩
  | .hbm, ⟨23, _⟩ => ⟨S2x1x2048, .f32⟩
  | .hbm, ⟨24, _⟩ => ⟨S2x16384x2048, .f32⟩
  | .hbm, ⟨25, _⟩ => ⟨S_, .f32⟩
  | .hbm, ⟨26, _⟩ => ⟨S2x16384, .f32⟩
  | .hbm, ⟨27, _⟩ => ⟨S2x16384x1, .f32⟩
  | .hbm, ⟨28, _⟩ => ⟨S_, .f32⟩
  | .hbm, ⟨29, _⟩ => ⟨S2x16384x1, .f32⟩
  | .hbm, ⟨30, _⟩ => ⟨S2x16384x1, .f32⟩
  | .hbm, ⟨31, _⟩ => ⟨S_, .f32⟩
  | .hbm, ⟨32, _⟩ => ⟨S2x16384x1, .f32⟩
  | .hbm, ⟨33, _⟩ => ⟨S2x16384x1, .f32⟩
  | .hbm, ⟨34, _⟩ => ⟨S2x16384x1, .f32⟩
  | .hbm, ⟨35, _⟩ => ⟨S2x16384x2048, .f32⟩
  | .hbm, ⟨36, _⟩ => ⟨S2x16384x2048, .f32⟩
  | .hbm, ⟨37, _⟩ => ⟨S1x1x2048, .f32⟩
  | .hbm, ⟨38, _⟩ => ⟨S2x16384x2048, .f32⟩
  | .hbm, ⟨39, _⟩ => ⟨S2x16384x2048, .f32⟩
  | .hbm, ⟨40, _⟩ => ⟨S_, .f32⟩
  | .hbm, ⟨41, _⟩ => ⟨S2x1x2048, .f32⟩
  | .hbm, ⟨42, _⟩ => ⟨S2x1x2048, .f32⟩
  | .hbm, ⟨43, _⟩ => ⟨S2x16384x2048, .f32⟩
  | .hbm, ⟨44, _⟩ => ⟨S2x16384x2048, .f32⟩
  | .hbm, ⟨45, _⟩ => ⟨S2x16384x2048, .f32⟩
  | .hbm, ⟨46, _⟩ => ⟨S2x16384x2048, .f32⟩
  | .hbm, ⟨47, _⟩ => ⟨S_, .f32⟩
  | .hbm, ⟨48, _⟩ => ⟨S2x1x2048, .f32⟩
  | .hbm, ⟨49, _⟩ => ⟨S2x1x2048, .f32⟩
  | .hbm, ⟨50, _⟩ => ⟨S2x16384x11264, .f32⟩
  | .hbm, ⟨51, _⟩ => ⟨S2x16384x5632, .f32⟩
  | .hbm, ⟨52, _⟩ => ⟨S2x16384x5632, .f32⟩
  | .hbm, ⟨53, _⟩ => ⟨S2x16384x5632, .f32⟩
  | .hbm, ⟨54, _⟩ => ⟨S2x16384x5632, .f32⟩
  | .hbm, ⟨55, _⟩ => ⟨S_, .f32⟩
  | .hbm, ⟨56, _⟩ => ⟨S2x16384x5632, .f32⟩
  | .hbm, ⟨57, _⟩ => ⟨S2x16384x5632, .f32⟩
  | .hbm, ⟨58, _⟩ => ⟨S_, .f32⟩
  | .hbm, ⟨59, _⟩ => ⟨S2x16384x5632, .f32⟩
  | .hbm, ⟨60, _⟩ => ⟨S2x16384x5632, .f32⟩
  | .hbm, ⟨61, _⟩ => ⟨S2x16384x5632, .f32⟩
  | .hbm, ⟨62, _⟩ => ⟨S2x16384x5632, .f32⟩
  | .hbm, ⟨63, _⟩ => ⟨S2x16384x2048, .f32⟩
  | .hbm, ⟨64, _⟩ => ⟨S2x16384x2048, .f32⟩
  | .hbm, ⟨65, _⟩ => ⟨S2x16384x2048, .f32⟩
  | .hbm, ⟨66, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== Kernel4.lean ====
abbrev S2x16384x2048 : Shape := ⟨3, ![2, 16384, 2048]⟩
abbrev S2x18432 : Shape := ⟨2, ![2, 18432]⟩
abbrev S2x8x16384x128 : Shape := ⟨4, ![2, 8, 16384, 128]⟩
abbrev S2x16384x1024 : Shape := ⟨3, ![2, 16384, 1024]⟩
abbrev S1024 : Shape := ⟨1, ![1024]⟩
abbrev S128 : Shape := ⟨1, ![128]⟩
abbrev S2048x2048 : Shape := ⟨2, ![2048, 2048]⟩
abbrev S2x9x2048 : Shape := ⟨3, ![2, 9, 2048]⟩
abbrev S1x1024 : Shape := ⟨2, ![1, 1024]⟩
abbrev S1x128 : Shape := ⟨2, ![1, 128]⟩
abbrev S1x512x2048 : Shape := ⟨3, ![1, 512, 2048]⟩
abbrev S1x9x2048 : Shape := ⟨3, ![1, 9, 2048]⟩
abbrev S1x8x512x128 : Shape := ⟨4, ![1, 8, 512, 128]⟩
abbrev S1x512x1024 : Shape := ⟨3, ![1, 512, 1024]⟩
abbrev S1x1x512x128 : Shape := ⟨4, ![1, 1, 512, 128]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S1x1x2048 : Shape := ⟨3, ![1, 1, 2048]⟩
abbrev S1x2048 : Shape := ⟨2, ![1, 2048]⟩

abbrev nBuf : Space → Nat
  | .hbm => 14
  | .vmem => 17
  | .smem => 0
  | _ => 0

abbrev bufTy : (tb : Table) → Fin (tcTables nBuf tb) → BufTy
  | .hbm, ⟨0, _⟩ => ⟨S2x16384x2048, .f32⟩
  | .hbm, ⟨1, _⟩ => ⟨S2x18432, .f32⟩
  | .hbm, ⟨2, _⟩ => ⟨S2x8x16384x128, .bf16⟩
  | .hbm, ⟨3, _⟩ => ⟨S2x16384x1024, .bf16⟩
  | .hbm, ⟨4, _⟩ => ⟨S2x16384x1024, .bf16⟩
  | .hbm, ⟨5, _⟩ => ⟨S2x16384x1024, .bf16⟩
  | .hbm, ⟨6, _⟩ => ⟨S1024, .f32⟩
  | .hbm, ⟨7, _⟩ => ⟨S128, .f32⟩
  | .hbm, ⟨8, _⟩ => ⟨S2048x2048, .f32⟩
  | .hbm, ⟨9, _⟩ => ⟨S2x9x2048, .f32⟩
  | .hbm, ⟨10, _⟩ => ⟨S2048x2048, .bf16⟩
  | .hbm, ⟨11, _⟩ => ⟨S1x1024, .f32⟩
  | .hbm, ⟨12, _⟩ => ⟨S1x128, .f32⟩
  | .hbm, ⟨13, _⟩ => ⟨S2x16384x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x8x512x128, .bf16⟩
  | .local _ .vmem, ⟨5, _⟩ => ⟨S1x8x512x128, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1024, .f32⟩
  | .local _ .vmem, ⟨13, _⟩ => ⟨S1x128, .f32⟩
  | .local _ .vmem, ⟨14, _⟩ => ⟨S2048x2048, .bf16⟩
  | .local _ .vmem, ⟨15, _⟩ => ⟨S1x512x2048, .f32⟩
  | .local _ .vmem, ⟨16, _⟩ => ⟨S1x512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S2x16384x2048 : Shape := ⟨3, ![2, 16384, 2048]⟩
abbrev S2x18432 : Shape := ⟨2, ![2, 18432]⟩
abbrev S2x8x16384x128 : Shape := ⟨4, ![2, 8, 16384, 128]⟩
abbrev S2x16384x1024 : Shape := ⟨3, ![2, 16384, 1024]⟩
abbrev S1024 : Shape := ⟨1, ![1024]⟩
abbrev S128 : Shape := ⟨1, ![128]⟩
abbrev S2048x2048 : Shape := ⟨2, ![2048, 2048]⟩
abbrev S2x2048 : Shape := ⟨2, ![2, 2048]⟩
abbrev S2x1x2048 : Shape := ⟨3, ![2, 1, 2048]⟩
abbrev S2x16384x8x128 : Shape := ⟨4, ![2, 16384, 8, 128]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x8 : Shape := ⟨3, ![2, 16384, 8]⟩
abbrev S2x16384x8x1 : Shape := ⟨4, ![2, 16384, 8, 1]⟩
abbrev S1x1x1x128 : Shape := ⟨4, ![1, 1, 1, 128]⟩

abbrev nBuf : Space → Nat
  | .hbm => 84
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x18432, .f32⟩
  | .hbm, ⟨2, _⟩ => ⟨S2x8x16384x128, .bf16⟩
  | .hbm, ⟨3, _⟩ => ⟨S2x16384x1024, .bf16⟩
  | .hbm, ⟨4, _⟩ => ⟨S2x16384x1024, .bf16⟩
  | .hbm, ⟨5, _⟩ => ⟨S2x16384x1024, .bf16⟩
  | .hbm, ⟨6, _⟩ => ⟨S1024, .f32⟩
  | .hbm, ⟨7, _⟩ => ⟨S128, .f32⟩
  | .hbm, ⟨8, _⟩ => ⟨S2048x2048, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S2x2048, .f32⟩
  | .hbm, ⟨16, _⟩ => ⟨S2x2048, .f32⟩
  | .hbm, ⟨17, _⟩ => ⟨S2x2048, .f32⟩
  | .hbm, ⟨18, _⟩ => ⟨S2x1x2048, .f32⟩
  | .hbm, ⟨19, _⟩ => ⟨S2x1x2048, .f32⟩
  | .hbm, ⟨20, _⟩ => ⟨S2x1x2048, .f32⟩
  | .hbm, ⟨21, _⟩ => ⟨S2x1x2048, .f32⟩
  | .hbm, ⟨22, _⟩ => ⟨S2x1x2048, .f32⟩
  | .hbm, ⟨23, _⟩ => ⟨S2x1x2048, .f32⟩
  | .hbm, ⟨24, _⟩ => ⟨S2x1x2048, .f32⟩
  | .hbm, ⟨25, _⟩ => ⟨S2x1x2048, .f32⟩
  | .hbm, ⟨26, _⟩ => ⟨S2x1x2048, .f32⟩
  | .hbm, ⟨27, _⟩ => ⟨S2x8x16384x128, .f32⟩
  | .hbm, ⟨28, _⟩ => ⟨S2x16384x8x128, .f32⟩
  | .hbm, ⟨29, _⟩ => ⟨S2x16384x1024, .f32⟩
  | .hbm, ⟨30, _⟩ => ⟨S2x16384x1024, .f32⟩
  | .hbm, ⟨31, _⟩ => ⟨S_, .f32⟩
  | .hbm, ⟨32, _⟩ => ⟨S2x16384, .f32⟩
  | .hbm, ⟨33, _⟩ => ⟨S2x16384x1, .f32⟩
  | .hbm, ⟨34, _⟩ => ⟨S_, .f32⟩
  | .hbm, ⟨35, _⟩ => ⟨S2x16384x1, .f32⟩
  | .hbm, ⟨36, _⟩ => ⟨S2x16384x1, .f32⟩
  | .hbm, ⟨37, _⟩ => ⟨S_, .f32⟩
  | .hbm, ⟨38, _⟩ => ⟨S2x16384x1, .f32⟩
  | .hbm, ⟨39, _⟩ => ⟨S2x16384x1, .f32⟩
  | .hbm, ⟨40, _⟩ => ⟨S2x16384x1, .f32⟩
  | .hbm, ⟨41, _⟩ => ⟨S2x16384x1024, .f32⟩
  | .hbm, ⟨42, _⟩ => ⟨S2x16384x1024, .f32⟩
  | .hbm, ⟨43, _⟩ => ⟨S1x1x1024, .f32⟩
  | .hbm, ⟨44, _⟩ => ⟨S2x16384x1024, .f32⟩
  | .hbm, ⟨45, _⟩ => ⟨S2x16384x1024, .f32⟩
  | .hbm, ⟨46, _⟩ => ⟨S2x16384x1024, .f32⟩
  | .hbm, ⟨47, _⟩ => ⟨S2x16384x1024, .f32⟩
  | .hbm, ⟨48, _⟩ => ⟨S2x16384x1024, .f32⟩
  | .hbm, ⟨49, _⟩ => ⟨S2x16384x8x128, .f32⟩
  | .hbm, ⟨50, _⟩ => ⟨S2x16384x8x128, .f32⟩
  | .hbm, ⟨51, _⟩ => ⟨S_, .f32⟩
  | .hbm, ⟨52, _⟩ => ⟨S2x16384x8, .f32⟩
  | .hbm, ⟨53, _⟩ => ⟨S2x16384x8x1, .f32⟩
  | .hbm, ⟨54, _⟩ => ⟨S_, .f32⟩
  | .hbm, ⟨55, _⟩ => ⟨S2x16384x8x1, .f32⟩
  | .hbm, ⟨56, _⟩ => ⟨S2x16384x8x1, .f32⟩
  | .hbm, ⟨57, _⟩ => ⟨S_, .f32⟩
  | .hbm, ⟨58, _⟩ => ⟨S2x16384x8x1, .f32⟩
  | .hbm, ⟨59, _⟩ => ⟨S2x16384x8x1, .f32⟩
  | .hbm, ⟨60, _⟩ => ⟨S2x16384x8x1, .f32⟩
  | .hbm, ⟨61, _⟩ => ⟨S2x16384x8x128, .f32⟩
  | .hbm, ⟨62, _⟩ => ⟨S2x16384x8x128, .f32⟩
  | .hbm, ⟨63, _⟩ => ⟨S1x1x1x128, .f32⟩
  | .hbm, ⟨64, _⟩ => ⟨S2x16384x8x128, .f32⟩
  | .hbm, ⟨65, _⟩ => ⟨S2x16384x8x128, .f32⟩
  | .hbm, ⟨66, _⟩ => ⟨S2x16384x1024, .f32⟩
  | .hbm, ⟨67, _⟩ => ⟨S2x16384x8x128, .f32⟩
  | .hbm, ⟨68, _⟩ => ⟨S2x16384x8x128, .f32⟩
  | .hbm, ⟨69, _⟩ => ⟨S2x16384x8x128, .f32⟩
  | .hbm, ⟨70, _⟩ => ⟨S_, .f32⟩
  | .hbm, ⟨71, _⟩ => ⟨S2x16384x8x128, .f32⟩
  | .hbm, ⟨72, _⟩ => ⟨S2x16384x8x128, .f32⟩
  | .hbm, ⟨73, _⟩ => ⟨S_, .f32⟩
  | .hbm, ⟨74, _⟩ => ⟨S2x16384x8x128, .f32⟩
  | .hbm, ⟨75, _⟩ => ⟨S2x16384x8x128, .f32⟩
  | .hbm, ⟨76, _⟩ => ⟨S2x16384x8x128, .f32⟩
  | .hbm, ⟨77, _⟩ => ⟨S2x16384x8x128, .f32⟩
  | .hbm, ⟨78, _⟩ => ⟨S2x16384x1024, .f32⟩
  | .hbm, ⟨79, _⟩ => ⟨S2x16384x2048, .f32⟩
  | .hbm, ⟨80, _⟩ => ⟨S2x16384x2048, .f32⟩
  | .hbm, ⟨81, _⟩ => ⟨S2x16384x2048, .f32⟩
  | .hbm, ⟨82, _⟩ => ⟨S2x16384x2048, .f32⟩
  | .hbm, ⟨83, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_2 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]
-- ==== Kernel5.lean ====
abbrev S2x16384x2048 : Shape := ⟨3, ![2, 16384, 2048]⟩
abbrev S2x18432 : Shape := ⟨2, ![2, 18432]⟩
abbrev S2048 : Shape := ⟨1, ![2048]⟩
abbrev S2048x7200 : Shape := ⟨2, ![2048, 7200]⟩
abbrev S2x9x2048 : Shape := ⟨3, ![2, 9, 2048]⟩
abbrev S2048x7168 : Shape := ⟨2, ![2048, 7168]⟩
abbrev S2048x32 : Shape := ⟨2, ![2048, 32]⟩
abbrev S_ : Shape := ⟨0, ![]⟩
abbrev S2048x128 : Shape := ⟨2, ![2048, 128]⟩
abbrev S1x2048 : Shape := ⟨2, ![1, 2048]⟩
abbrev S2x8x16384x128 : Shape := ⟨4, ![2, 8, 16384, 128]⟩
abbrev S2x16384x1024 : Shape := ⟨3, ![2, 16384, 1024]⟩
abbrev S2x16384x128 : Shape := ⟨3, ![2, 16384, 128]⟩
abbrev S1x512x2048 : Shape := ⟨3, ![1, 512, 2048]⟩
abbrev S1x9x2048 : Shape := ⟨3, ![1, 9, 2048]⟩
abbrev S2048x1024 : Shape := ⟨2, ![2048, 1024]⟩
abbrev S1x8x512x128 : Shape := ⟨4, ![1, 8, 512, 128]⟩
abbrev S1x512x1024 : Shape := ⟨3, ![1, 512, 1024]⟩
abbrev S1x512x128 : Shape := ⟨3, ![1, 512, 128]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩
abbrev S512x128 : Shape := ⟨2, ![512, 128]⟩
abbrev S512x1024 : Shape := ⟨2, ![512, 1024]⟩
abbrev S1x1x512x128 : Shape := ⟨4, ![1, 1, 512, 128]⟩

abbrev nBuf : Space → Nat
  | .hbm => 21
  | .vmem => 25
  | .smem => 0
  | _ => 0

abbrev bufTy : (tb : Table) → Fin (tcTables nBuf tb) → BufTy
  | .hbm, ⟨0, _⟩ => ⟨S2x16384x2048, .f32⟩
  | .hbm, ⟨1, _⟩ => ⟨S2x18432, .f32⟩
  | .hbm, ⟨2, _⟩ => ⟨S2048, .f32⟩
  | .hbm, ⟨3, _⟩ => ⟨S2048x7200, .f32⟩
  | .hbm, ⟨4, _⟩ => ⟨S2x9x2048, .f32⟩
  | .hbm, ⟨5, _⟩ => ⟨S2048x7168, .f32⟩
  | .hbm, ⟨6, _⟩ => ⟨S2048x7168, .bf16⟩
  | .hbm, ⟨7, _⟩ => ⟨S2048x32, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S2048x128, .bf16⟩
  | .hbm, ⟨12, _⟩ => ⟨S1x2048, .f32⟩
  | .hbm, ⟨13, _⟩ => ⟨S2x8x16384x128, .bf16⟩
  | .hbm, ⟨14, _⟩ => ⟨S2x8x16384x128, .bf16⟩
  | .hbm, ⟨15, _⟩ => ⟨S2x8x16384x128, .bf16⟩
  | .hbm, ⟨16, _⟩ => ⟨S2x16384x1024, .bf16⟩
  | .hbm, ⟨17, _⟩ => ⟨S2x16384x1024, .bf16⟩
  | .hbm, ⟨18, _⟩ => ⟨S2x16384x1024, .bf16⟩
  | .hbm, ⟨19, _⟩ => ⟨S2x16384x1024, .bf16⟩
  | .hbm, ⟨20, _⟩ => ⟨S2x16384x128, .f32⟩
  | .local _ .vmem, ⟨0, _⟩ => ⟨S1x512x2048, .f32⟩
  | .local _ .vmem, ⟨1, _⟩ => ⟨S1x512x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S2048x128, .bf16⟩
  | .local _ .vmem, ⟨8, _⟩ => ⟨S1x8x512x128, .bf16⟩
  | .local _ .vmem, ⟨9, _⟩ => ⟨S1x8x512x128, .bf16⟩
  | .local _ .vmem, ⟨10, _⟩ => ⟨S1x8x512x128, .bf16⟩
  | .local _ .vmem, ⟨11, _⟩ => ⟨S1x8x512x128, .bf16⟩
  | .local _ .vmem, ⟨12, _⟩ => ⟨S1x8x512x128, .bf16⟩
  | .local _ .vmem, ⟨13, _⟩ => ⟨S1x8x512x128, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x128, .f32⟩
  | .local _ .vmem, ⟨23, _⟩ => ⟨S1x512x128, .f32⟩
  | .local _ .vmem, ⟨24, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev main_v7_5 : Ref sig .tc := ⟨.hbm, 18, rfl⟩
abbrev main_v7_6 : Ref sig .tc := ⟨.hbm, 19, rfl⟩
abbrev main_v7_7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨3, ![2, 32, 7], ![false, false, false]⟩

def k0_cond2 (i : grid0.Coords) : BitVec 1 :=
  let arg2 : BitVec 32 := BitVec.ofNat 32 (i 2).val
  let c0_i32_4 : BitVec 32 := 0#32
  let v7 : BitVec 1 := Scalar.cmpi .eq arg2 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_7 : BitVec 32 := 0#32
  let v15 : BitVec 1 := Scalar.cmpi .ne v14 c0_i32_7
  v15

def k0_cond5 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_8 : BitVec 32 := 0#32
  let v18 : BitVec 1 := Scalar.cmpi .ne v17 c0_i32_8
  v18

def k0_cond6 (i : grid0.Coords) : BitVec 1 :=
  let arg2 : BitVec 32 := BitVec.ofNat 32 (i 2).val
  let c4_i32 : BitVec 32 := 4#32
  let v19 : BitVec 1 := Scalar.cmpi .eq arg2 c4_i32
  let v20 : BitVec 32 := Scalar.extui v19
  let c0_i32_9 : BitVec 32 := 0#32
  let v21 : BitVec 1 := Scalar.cmpi .ne v20 c0_i32_9
  v21

def k0_cond7 (i : grid0.Coords) : BitVec 1 :=
  let arg2 : BitVec 32 := BitVec.ofNat 32 (i 2).val
  let c5_i32 : BitVec 32 := 5#32
  let v22 : BitVec 1 := Scalar.cmpi .eq arg2 c5_i32
  let v23 : BitVec 32 := Scalar.extui v22
  let c0_i32_10 : BitVec 32 := 0#32
  let v24 : BitVec 1 := Scalar.cmpi .ne v23 c0_i32_10
  v24

def k0_cond8 (i : grid0.Coords) : BitVec 1 :=
  let arg2 : BitVec 32 := BitVec.ofNat 32 (i 2).val
  let c6_i32 : BitVec 32 := 6#32
  let v25 : BitVec 1 := Scalar.cmpi .eq arg2 c6_i32
  let v26 : BitVec 32 := Scalar.extui v25
  let c0_i32_11 : BitVec 32 := 0#32
  let v27 : BitVec 1 := Scalar.cmpi .ne v26 c0_i32_11
  v27

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x8x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x8x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== Reference5Ideal.lean ====
abbrev S2x16384x2048 : Shape := ⟨3, ![2, 16384, 2048]⟩
abbrev S2x18432 : Shape := ⟨2, ![2, 18432]⟩
abbrev S2048 : Shape := ⟨1, ![2048]⟩
abbrev S2048x7200 : Shape := ⟨2, ![2048, 7200]⟩
abbrev S2x2048 : Shape := ⟨2, ![2, 2048]⟩
abbrev S2x1x2048 : Shape := ⟨3, ![2, 1, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x7200 : Shape := ⟨3, ![2, 16384, 7200]⟩
abbrev S2x16384x1024 : Shape := ⟨3, ![2, 16384, 1024]⟩
abbrev S2x16384x32 : Shape := ⟨3, ![2, 16384, 32]⟩
abbrev S2x16384x8x128 : Shape := ⟨4, ![2, 16384, 8, 128]⟩
abbrev S2x8x16384x128 : Shape := ⟨4, ![2, 8, 16384, 128]⟩
abbrev S2x16384x128 : Shape := ⟨3, ![2, 16384, 128]⟩

abbrev nBuf : Space → Nat
  | .hbm => 73
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x18432, .f32⟩
  | .hbm, ⟨2, _⟩ => ⟨S2048, .f32⟩
  | .hbm, ⟨3, _⟩ => ⟨S2048x7200, .f32⟩
  | .hbm, ⟨4, _⟩ => ⟨S2x2048, .f32⟩
  | .hbm, ⟨5, _⟩ => ⟨S2x2048, .f32⟩
  | .hbm, ⟨6, _⟩ => ⟨S2x2048, .f32⟩
  | .hbm, ⟨7, _⟩ => ⟨S2x2048, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S2x1x2048, .f32⟩
  | .hbm, ⟨14, _⟩ => ⟨S2x1x2048, .f32⟩
  | .hbm, ⟨15, _⟩ => ⟨S2x1x2048, .f32⟩
  | .hbm, ⟨16, _⟩ => ⟨S2x1x2048, .f32⟩
  | .hbm, ⟨17, _⟩ => ⟨S2x1x2048, .f32⟩
  | .hbm, ⟨18, _⟩ => ⟨S2x1x2048, .f32⟩
  | .hbm, ⟨19, _⟩ => ⟨S2x1x2048, .f32⟩
  | .hbm, ⟨20, _⟩ => ⟨S2x1x2048, .f32⟩
  | .hbm, ⟨21, _⟩ => ⟨S2x1x2048, .f32⟩
  | .hbm, ⟨22, _⟩ => ⟨S2x16384x2048, .f32⟩
  | .hbm, ⟨23, _⟩ => ⟨S_, .f32⟩
  | .hbm, ⟨24, _⟩ => ⟨S2x16384, .f32⟩
  | .hbm, ⟨25, _⟩ => ⟨S2x16384x1, .f32⟩
  | .hbm, ⟨26, _⟩ => ⟨S_, .f32⟩
  | .hbm, ⟨27, _⟩ => ⟨S2x16384x1, .f32⟩
  | .hbm, ⟨28, _⟩ => ⟨S2x16384x1, .f32⟩
  | .hbm, ⟨29, _⟩ => ⟨S_, .f32⟩
  | .hbm, ⟨30, _⟩ => ⟨S2x16384x1, .f32⟩
  | .hbm, ⟨31, _⟩ => ⟨S2x16384x1, .f32⟩
  | .hbm, ⟨32, _⟩ => ⟨S2x16384x1, .f32⟩
  | .hbm, ⟨33, _⟩ => ⟨S2x16384x2048, .f32⟩
  | .hbm, ⟨34, _⟩ => ⟨S2x16384x2048, .f32⟩
  | .hbm, ⟨35, _⟩ => ⟨S1x1x2048, .f32⟩
  | .hbm, ⟨36, _⟩ => ⟨S2x16384x2048, .f32⟩
  | .hbm, ⟨37, _⟩ => ⟨S2x16384x2048, .f32⟩
  | .hbm, ⟨38, _⟩ => ⟨S_, .f32⟩
  | .hbm, ⟨39, _⟩ => ⟨S2x1x2048, .f32⟩
  | .hbm, ⟨40, _⟩ => ⟨S2x1x2048, .f32⟩
  | .hbm, ⟨41, _⟩ => ⟨S2x16384x2048, .f32⟩
  | .hbm, ⟨42, _⟩ => ⟨S2x16384x2048, .f32⟩
  | .hbm, ⟨43, _⟩ => ⟨S2x16384x2048, .f32⟩
  | .hbm, ⟨44, _⟩ => ⟨S2x16384x2048, .f32⟩
  | .hbm, ⟨45, _⟩ => ⟨S2x16384x7200, .f32⟩
  | .hbm, ⟨46, _⟩ => ⟨S2x16384x1024, .f32⟩
  | .hbm, ⟨47, _⟩ => ⟨S2x16384x1024, .f32⟩
  | .hbm, ⟨48, _⟩ => ⟨S2x16384x1024, .f32⟩
  | .hbm, ⟨49, _⟩ => ⟨S2x16384x1024, .f32⟩
  | .hbm, ⟨50, _⟩ => ⟨S2x16384x1024, .f32⟩
  | .hbm, ⟨51, _⟩ => ⟨S2x16384x1024, .f32⟩
  | .hbm, ⟨52, _⟩ => ⟨S2x16384x1024, .f32⟩
  | .hbm, ⟨53, _⟩ => ⟨S2x16384x32, .f32⟩
  | .hbm, ⟨54, _⟩ => ⟨S_, .f32⟩
  | .hbm, ⟨55, _⟩ => ⟨S2x16384x1024, .f32⟩
  | .hbm, ⟨56, _⟩ => ⟨S2x16384x1024, .f32⟩
  | .hbm, ⟨57, _⟩ => ⟨S2x16384x8x128, .f32⟩
  | .hbm, ⟨58, _⟩ => ⟨S2x8x16384x128, .f32⟩
  | .hbm, ⟨59, _⟩ => ⟨S2x8x16384x128, .bf16⟩
  | .hbm, ⟨60, _⟩ => ⟨S2x16384x8x128, .f32⟩
  | .hbm, ⟨61, _⟩ => ⟨S2x8x16384x128, .f32⟩
  | .hbm, ⟨62, _⟩ => ⟨S2x8x16384x128, .bf16⟩
  | .hbm, ⟨63, _⟩ => ⟨S2x16384x8x128, .f32⟩
  | .hbm, ⟨64, _⟩ => ⟨S2x8x16384x128, .f32⟩
  | .hbm, ⟨65, _⟩ => ⟨S2x8x16384x128, .bf16⟩
  | .hbm, ⟨66, _⟩ => ⟨S2x16384x1024, .bf16⟩
  | .hbm, ⟨67, _⟩ => ⟨S2x16384x1024, .bf16⟩
  | .hbm, ⟨68, _⟩ => ⟨S2x16384x1024, .bf16⟩
  | .hbm, ⟨69, _⟩ => ⟨S2x16384x1024, .bf16⟩
  | .hbm, ⟨70, _⟩ => ⟨S_, .i32⟩
  | .hbm, ⟨71, _⟩ => ⟨S_, .f32⟩
  | .hbm, ⟨72, _⟩ => ⟨S2x16384x128, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_3 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_c : Ref sig .tc := ⟨.hbm, 70, rfl⟩
abbrev main_call0_v0 : Ref sig .tc := ⟨.hbm, 71, rfl⟩
abbrev main_v61 : Ref sig .tc := ⟨.hbm, 72, rfl⟩

abbrev nD : Nat := 1
abbrev τ : Topo := Topo.v7x

variable {F : FTy → Type} [FloatOps F]
-- ==== Kernel6.lean ====
abbrev S8x2048 : Shape := ⟨2, ![8, 2048]⟩
abbrev S2048x18432 : Shape := ⟨2, ![2048, 18432]⟩
abbrev S18432 : Shape := ⟨1, ![18432]⟩
abbrev S1x18432 : Shape := ⟨2, ![1, 18432]⟩
abbrev S8x18432 : Shape := ⟨2, ![8, 18432]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x18432, .f32⟩
  | .hbm, ⟨2, _⟩ => ⟨S18432, .f32⟩
  | .hbm, ⟨3, _⟩ => ⟨S1x18432, .f32⟩
  | .hbm, ⟨4, _⟩ => ⟨S8x18432, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8x2048 : Shape := ⟨2, ![8, 2048]⟩
abbrev S2048x18432 : Shape := ⟨2, ![2048, 18432]⟩
abbrev S18432 : Shape := ⟨1, ![18432]⟩
abbrev S_ : Shape := ⟨0, ![]⟩
abbrev S8x18432 : Shape := ⟨2, ![8, 18432]⟩
abbrev S1x18432 : Shape := ⟨2, ![1, 18432]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x18432, .f32⟩
  | .hbm, ⟨2, _⟩ => ⟨S18432, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x18432, .f32⟩
  | .hbm, ⟨13, _⟩ => ⟨S1x18432, .f32⟩
  | .hbm, ⟨14, _⟩ => ⟨S8x18432, .f32⟩
  | .hbm, ⟨15, _⟩ => ⟨S8x18432, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.FfnMath.lean ====
module

public import proofs.«01_k».proof.Proof.Gen.Kernel2Ideal.Skeleton
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.Pointwise.Sums
public import Idealize.ShloMosaic.Lib.ValueIdx

/-! The gated feed-forward block on extended reals: its row functions, and the kernel's payloads read at an index. -/

@[expose] public section

noncomputable section

namespace Cert.Ffn

open Idealize.ShloMosaic
open scoped BigOperators

/-- The reciprocal root mean square of a row. -/
def rms (x : Fin 2048 → EReal) : EReal :=
  Ideal.rsqrt (Ideal.div (∑ k, x k * x k) (Ideal.ofBits .f32 0x45000000#32) + Ideal.ofBits .f32 0x358637BD#32)

/-- A row normalised, scaled and shifted. -/
def normed (x nw sc sh : Fin 2048 → EReal) (k : Fin 2048) : EReal :=
  x k * rms x * (nw k * (1 + sc k)) + sh k

/-- One hidden unit: the gate's `silu` times the up projection. -/
def unit (h wg wu : Fin 2048 → EReal) : EReal :=
  (∑ k, h k * wg k) * Ideal.logistic (∑ k, h k * wg k) * ∑ k, h k * wu k

/-- The residual row: the input plus half the gate times the block's output. -/
def resid (x gt y : Fin 2048 → EReal) (k : Fin 2048) : EReal :=
  x k + Ideal.ofBits .f32 0x3F000000#32 * gt k * y k

/-- The block's output for one row: the hidden units weighted by the down projection. The first 5632 columns of the
    up projection are the gate, the others the value. -/
def block (h : Fin 2048 → EReal) (win : Fin 2048 → Fin 11264 → EReal) (wo : Fin 5632 → Fin 2048 → EReal) (d : Fin 2048) : EReal :=
  ∑ f : Fin 5632, unit h (fun k => win k ⟨f.val, by omega⟩) (fun k => win k ⟨5632 + f.val, by omega⟩) * wo f d

end Cert.Ffn

namespace Cert.Kernel2Ideal.Ffn

open Cert.Kernel2Ideal Cert.Kernel2Ideal.Gen Idealize.ShloMosaic Cert.Ffn

theorem pay1_apply (v25 v27 : Vec Ideal S1x1x2048 .f32) (v29 : Vec Ideal S1x512x2048 .f32) (v31 : Vec Ideal S1x2048 .f32)
    (r : Fin 512) (k : Fin 2048) :
    k0_pay1 (F := Ideal) v25 v27 v29 v31 (ix2 r k)
      = normed (fun k => v29 (ix3 0 r k)) (fun k => v31 (ix2 0 k)) (fun k => v27 (ix3 0 0 k)) (fun k => v25 (ix3 0 0 k)) k := by
  unfold k0_pay1 normed rms
  pointwise

theorem pay3_apply (h : Vec Ideal S512x2048 .bf16) (wg wu : Vec Ideal S2048x512 .bf16) (acc : Vec Ideal S512x2048 .f32)
    (wo : Vec Ideal S512x2048 .bf16) (r : Fin 512) (d : Fin 2048) :
    k0_pay3 (F := Ideal) h wg wu acc wo (ix2 r d)
      = acc (ix2 r d) + ∑ f : Fin 512, unit (fun k => h (ix2 r k)) (fun k => wg (ix2 k f)) (fun k => wu (ix2 k f)) * wo (ix2 f d) := by
  unfold k0_pay3 unit
  pointwise

theorem pay4_apply (v25 : Vec Ideal S1x1x2048 .f32) (v27 : Vec Ideal S1x512x2048 .f32) (acc : Vec Ideal S512x2048 .f32)
    (fw : Vec Ideal S1x2048 .f32) (r : Fin 512) (k : Fin 2048) :
    k0_pay4 (F := Ideal) v25 v27 acc fw (ix3 0 r k)
      = resid (fun k => v27 (ix3 0 r k)) (fun k => v25 (ix3 0 0 k)) (fun k => acc (ix2 r k)) k
        * rms (resid (fun k => v27 (ix3 0 r k)) (fun k => v25 (ix3 0 0 k)) (fun k => acc (ix2 r k))) * fw (ix2 0 k) := by
  unfold k0_pay4 resid rms
  pointwise

end Cert.Kernel2Ideal.Ffn
-- ==== Proof.FfnPoints.lean ====
module

public import proofs.«01_k».proof.Proof.FfnMath
public import proofs.«01_k».proof.Proof.Gen.Kernel2Ideal.Value
public import Idealize.ShloMosaic.Lib.Pipeline.ValueKit
public import Idealize.ShloMosaic.Lib.Pipeline.ReadBack

/-! The second feed-forward kernel, point by point: its blocks as parts of the arguments. -/

@[expose] public section

set_option maxRecDepth 16384

noncomputable section

namespace Cert.Kernel2Ideal.Ffn

open Cert.Kernel2Ideal Cert.Kernel2Ideal.Gen Idealize.ShloMosaic Idealize.ShloMosaic.TcCoe Cert.Ffn
open scoped BigOperators

variable (m : (ℓ : Loc nD τ sig) → Buf (Elt Ideal) ℓ) (c : Dev nD)

/-- The arguments' arrays. -/
abbrev aX : Vec Ideal S2x16384x2048 .f32 := m ((c.tc : Thread nD τ).loc main_arg0)
abbrev aM : Vec Ideal S2x18432 .f32 := m ((c.tc : Thread nD τ).loc main_arg1)
abbrev aN : Vec Ideal S2048 .f32 := m ((c.tc : Thread nD τ).loc main_arg2)
abbrev aI : Vec Ideal S2048x11264 .f32 := m ((c.tc : Thread nD τ).loc main_arg3)
abbrev aO : Vec Ideal S5632x2048 .f32 := m ((c.tc : Thread nD τ).loc main_arg4)
abbrev aF : Vec Ideal S2048 .f32 := m ((c.tc : Thread nD τ).loc main_arg5)

theorem V0 : (V m c main_v0 : Vec Ideal S2x9x2048 .f32) = shapeCast S2x9x2048 (aM m c) shapeCasts_S2x18432_S2x9x2048 := by
  dsimp only [V, hostOps0]; after_results_simp; rfl
theorem V1 : (V m c main_v1 : Vec Ideal S2048x11264 .bf16) = aI m c := by
  dsimp only [V, hostOps0]; after_results_simp; rfl
theorem V2 : (V m c main_v2 : Vec Ideal S5632x2048 .bf16) = aO m c := by
  dsimp only [V, hostOps0]; after_results_simp; rfl
theorem V3 : (V m c main_v3 : Vec Ideal S1x2048 .f32) = shapeCast S1x2048 (aN m c) shapeCasts_S2048_S1x2048 := by
  dsimp only [V, hostOps0]; after_results_simp; rfl
theorem V4 : (V m c main_v4 : Vec Ideal S1x2048 .f32) = shapeCast S1x2048 (aF m c) shapeCasts_S2048_S1x2048 := by
  dsimp only [V, hostOps0]; after_results_simp; rfl

theorem e0 : ∀ t : Fin cfg0.N, win0_0.index t = ![t.val / 352, t.val / 11 % 32, 0] := (by decide +kernel : ∀ t : Fin grid0.N, _)
theorem e1 : ∀ t : Fin cfg0.N, win0_1.index t = ![t.val / 352, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, t.val % 11] := (by decide +kernel : ∀ t : Fin grid0.N, _)
theorem e4 : ∀ t : Fin cfg0.N, win0_4.index t = ![0, t.val % 11 + 11] := (by decide +kernel : ∀ t : Fin grid0.N, _)
theorem e5 : ∀ t : Fin cfg0.N, win0_5.index t = ![t.val % 11, 0] := (by decide +kernel : ∀ t : Fin grid0.N, _)
theorem e6 : ∀ t : Fin cfg0.N, win0_6.index t = ![0, 0] := (by decide +kernel : ∀ t : Fin grid0.N, _)

theorem lt704 (t : Fin cfg0.N) : t.val < 704 := t.isLt

/-- The batch row and the sequence row of point `t`'s block row `r`. -/
def bOf (t : Fin cfg0.N) : Fin 2 := ⟨t.val / 352, by have := lt704 t; omega⟩
def sOf (t : Fin cfg0.N) (r : Fin 512) : Fin 16384 := ⟨512 * (t.val / 11 % 32) + r.val, by omega⟩

theorem iblk0 (t : Fin cfg0.N) (r : Fin 512) (k : Fin 2048) :
    (iblk m c 0 t : Vec Ideal S1x512x2048 .f32) (ix3 0 r k) = aX m c (ix3 (bOf t) (sOf t r) k) := by
  blk_simp [iblk]
  rw [V_main_arg0]
  blk_ext [e0, bOf, sOf]

theorem iblk1 (t : Fin cfg0.N) (j : Fin 9) (k : Fin 2048) :
    (iblk m c 1 t : Vec Ideal S1x9x2048 .f32) (ix3 0 j k) = aM m c (ix2 (bOf t) ⟨2048 * j.val + k.val, by omega⟩) := by
  blk_simp [iblk]
  have h := congrFun (V0 m c) (ix3 (bOf t) j k)
  have e : ((win0_1.blk t).view.emb (ix3 0 j k) : S2x9x2048.Idx) = ix3 (bOf t) j k := by blk_ext [e1, bOf]
  rw [e]
  refine h.trans ?_
  refine (shapeCast_apply _ _ _ (ix2 (bOf t) ⟨2048 * j.val + k.val, by omega⟩) ?_).trans rfl
  simp only [Shape.rowMajor_val_two, Shape.rowMajor_val_three]
  show (bOf t).val * 18432 + (2048 * j.val + k.val) = ((bOf t).val * 9 + j.val) * 2048 + k.val
  omega

theorem iblk2 (t : Fin cfg0.N) (k : Fin 2048) :
    (iblk m c 2 t : Vec Ideal S1x2048 .f32) (ix2 0 k) = aN m c (ix1 k) := by
  blk_simp [iblk]
  have e : ((win0_2.blk t).view.emb (ix2 0 k) : S1x2048.Idx) = ix2 0 k := by blk_ext [e2]
  rw [e]
  refine (congrFun (V3 m c) (ix2 0 k)).trans ?_
  pointwise

theorem iblk6 (t : Fin cfg0.N) (k : Fin 2048) :
    (iblk m c 6 t : Vec Ideal S1x2048 .f32) (ix2 0 k) = aF m c (ix1 k) := by
  blk_simp [iblk]
  have e : ((win0_6.blk t).view.emb (ix2 0 k) : S1x2048.Idx) = ix2 0 k := by blk_ext [e6]
  rw [e]
  refine (congrFun (V4 m c) (ix2 0 k)).trans ?_
  pointwise

theorem iblk3 (t : Fin cfg0.N) (k : Fin 2048) (f : Fin 512) :
    (iblk m c 3 t : Vec Ideal S2048x512 .bf16) (ix2 k f) = aI m c (ix2 k ⟨512 * (t.val % 11) + f.val, by omega⟩) := by
  blk_simp [iblk]
  refine (congrFun (V1 m c) _).trans ?_
  blk_ext [e3]

theorem iblk4 (t : Fin cfg0.N) (k : Fin 2048) (f : Fin 512) :
    (iblk m c 4 t : Vec Ideal S2048x512 .bf16) (ix2 k f) = aI m c (ix2 k ⟨5632 + (512 * (t.val % 11) + f.val), by omega⟩) := by
  blk_simp [iblk]
  refine (congrFun (V1 m c) _).trans ?_
  blk_ext [e4]

theorem iblk5 (t : Fin cfg0.N) (f : Fin 512) (d : Fin 2048) :
    (iblk m c 5 t : Vec Ideal S512x2048 .bf16) (ix2 f d) = aO m c (ix2 ⟨512 * (t.val % 11) + f.val, by omega⟩ d) := by
  blk_simp [iblk]
  refine (congrFun (V2 m c) _).trans ?_
  blk_ext [e5]

/-- A row of the modulation block. -/
theorem ld_mod (x : Vec Ideal S1x9x2048 .f32) (j : ℕ) (hj : j < 9) (inb) (k : Fin 2048) :
    (View.ld x (Rect.unit (s := S1x9x2048) ![0, j, 0] S1x1x2048.size inb) : Vec Ideal S1x1x2048 .f32) (ix3 0 0 k) = x (ix3 0 ⟨j, hj⟩ k) := by
  refine View.ld_unit_apply_of x _ _ inb (ix3 0 0 k) (ix3 0 ⟨j, hj⟩ k) ?_
  intro a
  fin_cases a <;> simp [ix3]

/-- The normalised row the kernel keeps for the block's row. -/
def hrow (b : Fin 2) (s : Fin 16384) : Fin 2048 → EReal :=
  normed (fun k => aX m c (ix3 b s k)) (fun k => aN m c (ix1 k)) (fun k => aM m c (ix2 b ⟨14336 + k.val, by omega⟩))
    (fun k => aM m c (ix2 b ⟨12288 + k.val, by omega⟩))

/-- What point `t` adds to its accumulator. -/
def term (t : Fin cfg0.N) (i : S512x2048.Idx) : EReal :=
  ∑ f : Fin 512, unit (hrow m c (bOf t) (sOf t (i 0))) (fun k => aI m c (ix2 k ⟨512 * (t.val % 11) + f.val, by omega⟩))
    (fun k => aI m c (ix2 k ⟨5632 + (512 * (t.val % 11) + f.val), by omega⟩)) * aO m c (ix2 ⟨512 * (t.val % 11) + f.val, by omega⟩ (i 1))

theorem pay1_at (t : Fin cfg0.N) (r : Fin 512) (k : Fin 2048) :
    k0_pay1 (F := Ideal) (View.ld (iblk m c 1 t) (Rect.unit (s := S1x9x2048) ![0, 6, 0] S1x1x2048.size inb_S1x9x2048_S1x1x2048_0_6_0))
      (View.ld (iblk m c 1 t) (Rect.unit (s := S1x9x2048) ![0, 7, 0] S1x1x2048.size inb_S1x9x2048_S1x1x2048_0_7_0)) (iblk m c 0 t)
      (iblk m c 2 t) (ix2 r k) = hrow m c (bOf t) (sOf t r) k := by
  refine (pay1_apply _ _ _ _ r k).trans ?_
  unfold hrow
  congr 1 <;> funext k'
  · exact iblk0 m c t r k'
  · exact iblk2 m c t k'
  · exact (ld_mod _ 7 (by decide) _ k').trans (iblk1 m c t 7 k')
  · exact (ld_mod _ 6 (by decide) _ k').trans (iblk1 m c t 6 k')

theorem sub_one_of {t : Fin cfg0.N} (h0 : ¬t.val % 11 = 0) : t.val - 1 < cfg0.N := lt_of_le_of_lt (Nat.sub_le _ _) t.isLt

theorem bs_pred (t : Fin cfg0.N) (h0 : ¬t.val % 11 = 0) (r : Fin 512) :
    bOf ⟨t.val - 1, sub_one_of h0⟩ = bOf t ∧ sOf ⟨t.val - 1, sub_one_of h0⟩ r = sOf t r := by
  constructor
  · apply Fin.ext; show (t.val - 1) / 352 = t.val / 352; omega
  · apply Fin.ext; show 512 * ((t.val - 1) / 11 % 32) + r.val = 512 * (t.val / 11 % 32) + r.val; omega

/-- The carried normalised rows, at every point. -/
theorem hs (n : ℕ) : ∀ (hn : n < cfg0.N) (r : Fin 512) (k : Fin 2048),
    (outsAt0 m c n hn).2.1 (ix2 r k) = hrow m c (bOf ⟨n, hn⟩) (sOf ⟨n, hn⟩ r) k := by
  induction n with
  | zero =>
    intro hn r k
    have e := outsAt0_A m c ⟨0, hn⟩ (by show 0 % 11 = 0; decide) (by show ¬ 0 % 11 = 10; decide)
    simp only at e
    rw [e]
    frame_out
    exact pay1_at m c ⟨0, hn⟩ r k
  | succ n ih =>
    intro hn r k
    by_cases h0 : (n + 1) % 11 = 0
    · have e := outsAt0_A m c ⟨n + 1, hn⟩ h0 (by simp only; omega)
      simp only at e
      rw [e]
      frame_out
      exact pay1_at m c ⟨n + 1, hn⟩ r k
    · have hp := bs_pred ⟨n + 1, hn⟩ h0 r
      have i0 := ih (by omega) r k
      have i1 : (outsAt0 m c n (by omega)).2.1 (ix2 r k) = hrow m c (bOf ⟨n + 1, hn⟩) (sOf ⟨n + 1, hn⟩ r) k := by
        rw [← hp.1, ← hp.2]; exact i0
      by_cases h1 : (n + 1) % 11 = 10
      · have e := outsAt0_C m c ⟨n + 1, hn⟩ h0 h1
        simp only at e
        rw [e]
        exact i1
      · have e := outsAt0_B m c ⟨n + 1, hn⟩ h0 h1
        simp only at e
        rw [e]
        exact i1

/-- One point's addition to the accumulator, of the carried rows. -/
theorem pay3_at (t : Fin cfg0.N) (h : Vec Ideal S512x2048 .bf16) (hh : ∀ (r : Fin 512) k, h (ix2 r k) = hrow m c (bOf t) (sOf t r) k)
    (acc : Vec Ideal S512x2048 .f32) (i : S512x2048.Idx) :
    k0_pay3 (F := Ideal) h (iblk m c 3 t) (iblk m c 4 t) acc (iblk m c 5 t) i = acc i + term m c t i := by
  obtain ⟨r, d, rfl⟩ : ∃ (r : Fin 512) (d : Fin 2048), i = ix2 r d := ⟨i 0, i 1, by blk_ext⟩
  refine (pay3_apply _ _ _ _ _ r d).trans ?_
  unfold term
  congr 1
  refine Finset.sum_congr rfl fun f _ => ?_
  congr 1
  · congr 1
    · funext k; exact hh r k
    · funext k; exact iblk3 m c t k f
    · funext k; exact iblk4 m c t k f
  · exact iblk5 m c t f d

theorem pay2_zero (i : S512x2048.Idx) : k0_pay2 (F := Ideal) i = 0 := by
  unfold k0_pay2
  pointwise

/-- The accumulator, at every point: the run's additions so far. -/
theorem acc_step_A (t : Fin cfg0.N) (h : t.val % 11 = 0) (i : S512x2048.Idx) :
    (outsAt0 m c t.val t.isLt).2.2 i = (fun _ => 0 : S512x2048.Idx → EReal) i + term m c t i := by
  rw [outsAt0_A m c t h (by omega)]
  frame_out
  refine (pay3_at m c t _ (fun r k => pay1_at m c t r k) _ i).trans ?_
  rw [pay2_zero]

theorem acc_step_B (t : Fin cfg0.N) (h : ¬t.val % 11 = 0) (i : S512x2048.Idx) :
    (outsAt0 m c t.val t.isLt).2.2 i = (outsAt0 m c (t.val - 1) (sub_one_of h)).2.2 i + term m c t i := by
  have hh : ∀ (r : Fin 512) k, (outsAt0 m c (t.val - 1) (sub_one_of h)).2.1 (ix2 r k) = hrow m c (bOf t) (sOf t r) k := fun r k => by
    rw [hs, (bs_pred t h r).1, (bs_pred t h r).2]
  by_cases h1 : t.val % 11 = 10
  · rw [outsAt0_C m c t h h1]
    frame_out
    rw [Idealize.ShloMosaic.read_unread_whole, Idealize.ShloMosaic.read_unread_whole]
    exact pay3_at m c t _ hh _ i
  · rw [outsAt0_B m c t h h1]
    frame_out
    rw [Idealize.ShloMosaic.read_unread_whole, Idealize.ShloMosaic.read_unread_whole]
    exact pay3_at m c t _ hh _ i

theorem acc_last (t : Fin cfg0.N) (h : t.val % 11 = 11 - 1) (r : Fin 512) (d : Fin 2048) :
    (outsAt0 m c t.val t.isLt).2.2 (ix2 r d) = block (hrow m c (bOf t) (sOf t r)) (fun k f => aI m c (ix2 k f)) (fun f d => aO m c (ix2 f d)) d := by
  have e := Pipeline.eq_sum_fin_of_reset_step_apply_of_flush (fun n h => (outsAt0 m c n h).2.2) 11 (fun _ => (0 : EReal)) (term m c)
    (acc_step_A m c) (fun t h i => acc_step_B m c t h i) t h (ix2 r d)
  refine e.trans ?_
  rw [zero_add]
  unfold block
  refine Fin.sum_mul_add_congr (S := 11) (n := 512) fun s f hl => ?_
  have e1 : bOf ⟨11 * (t.val / 11) + s.val, Pipeline.run_point_lt_of_flush t h s⟩ = bOf t := by
    apply Fin.ext; show (11 * (t.val / 11) + s.val) / 352 = t.val / 352; omega
  have e2 : sOf ⟨11 * (t.val / 11) + s.val, Pipeline.run_point_lt_of_flush t h s⟩ r = sOf t r := by
    apply Fin.ext; show 512 * ((11 * (t.val / 11) + s.val) / 11 % 32) + r.val = 512 * (t.val / 11 % 32) + r.val; omega
  have e3 : 512 * ((11 * (t.val / 11) + s.val) % 11) + f.val = s.val * 512 + f.val := by omega
  simp only [term, ix2, e1, e2, e3]

/-- The row the last point of a run writes. -/
def orow (b : Fin 2) (s : Fin 16384) : Fin 2048 → EReal :=
  resid (fun k => aX m c (ix3 b s k)) (fun k => aM m c (ix2 b ⟨16384 + k.val, by omega⟩))
    (block (hrow m c b s) (fun k f => aI m c (ix2 k f)) (fun f d => aO m c (ix2 f d)))

theorem pay4_at (t : Fin cfg0.N) (acc : Vec Ideal S512x2048 .f32)
    (ha : ∀ (r : Fin 512) d, acc (ix2 r d) = block (hrow m c (bOf t) (sOf t r)) (fun k f => aI m c (ix2 k f)) (fun f d => aO m c (ix2 f d)) d)
    (r : Fin 512) (d : Fin 2048) :
    k0_pay4 (F := Ideal) (View.ld (iblk m c 1 t) (Rect.unit (s := S1x9x2048) ![0, 8, 0] S1x1x2048.size inb_S1x9x2048_S1x1x2048_0_8_0))
      (iblk m c 0 t) acc (iblk m c 6 t) (ix3 0 r d)
      = orow m c (bOf t) (sOf t r) d * rms (orow m c (bOf t) (sOf t r)) * aF m c (ix1 d) := by
  refine (pay4_apply _ _ _ _ r d).trans ?_
  have e : resid (fun k => (iblk m c 0 t : Vec Ideal S1x512x2048 .f32) (ix3 0 r k))
      (fun k => (View.ld (iblk m c 1 t) (Rect.unit (s := S1x9x2048) ![0, 8, 0] S1x1x2048.size inb_S1x9x2048_S1x1x2048_0_8_0) : Vec Ideal S1x1x2048 .f32) (ix3 0 0 k))
      (fun k => acc (ix2 r k)) = orow m c (bOf t) (sOf t r) := by
    unfold orow
    congr 1 <;> funext k'
    · exact iblk0 m c t r k'
    · exact (ld_mod _ 8 (by decide) _ k').trans (iblk1 m c t 8 k')
    · exact ha r k'
  rw [e]
  congr 1
  exact iblk6 m c t d

theorem out_last (t : Fin cfg0.N) (h : t.val % 11 = 10) (r : Fin 512) (d : Fin 2048) :
    (outsAt0 m c t.val t.isLt).1 (ix3 0 r d)
      = orow m c (bOf t) (sOf t r) d * rms (orow m c (bOf t) (sOf t r)) * aF m c (ix1 d) := by
  have ha := fun r d => acc_last m c t h r d
  rw [outsAt0_C m c t (by omega) h] at ha ⊢
  frame_out at ha
  frame_out
  exact pay4_at m c t _ ha r d

/-- The kernel's result at an index. -/
theorem G7_apply (b : Fin 2) (s : Fin 16384) (d : Fin 2048) :
    (Value.G7 m c : Vec Ideal S2x16384x2048 .f32) (ix3 b s d) = orow m c b s d * rms (orow m c b s) * aF m c (ix1 d) := by
  have hp : Value.pt7Of (ix3 b s d) = 352 * b.val + 11 * (s.val / 512) + 10 := by
    show 11 * (32 * (b.val / 1 - 0) + 1 * (s.val / 512 - 0) + 1 * (d.val / 2048 - 0)) + 10 = _
    omega
  have hlt : 352 * b.val + 11 * (s.val / 512) + 10 < cfg0.N := by
    show _ < 704
    omega
  have hl : Value.loc7Of (ix3 b s d) = ix3 0 ⟨s.val % 512, by omega⟩ d := by
    funext a
    apply Fin.ext
    fin_cases a
    · show b.val % 1 = 0; omega
    · rfl
    · show d.val % 2048 = d.val; omega
  have key := out_last m c ⟨352 * b.val + 11 * (s.val / 512) + 10, hlt⟩ (by simp only; omega) ⟨s.val % 512, by omega⟩ d
  have eb : bOf ⟨352 * b.val + 11 * (s.val / 512) + 10, hlt⟩ = b := by
    apply Fin.ext; show (352 * b.val + 11 * (s.val / 512) + 10) / 352 = b.val; omega
  have es : sOf ⟨352 * b.val + 11 * (s.val / 512) + 10, hlt⟩ ⟨s.val % 512, by omega⟩ = s := by
    apply Fin.ext
    show 512 * ((352 * b.val + 11 * (s.val / 512) + 10) / 11 % 32) + s.val % 512 = s.val
    omega
  rw [eb, es] at key
  simp only [Value.outsAt0_sweep] at key
  rw [← key]
  unfold Value.G7
  rw [dif_pos (by rw [hp]; exact hlt), hl]
  exact congrArg (fun p : Vec Ideal S1x512x2048 .f32 × Vec Ideal S512x2048 .bf16 × Vec Ideal S512x2048 .f32 => p.1 (ix3 0 ⟨s.val % 512, by omega⟩ d))
    (Value.fold0_congr m c _ _ _ _ hp)

end Cert.Kernel2Ideal.Ffn
-- ==== Proof.FfnRef.lean ====
module

public import proofs.«01_k».proof.Proof.FfnMath
public import proofs.«01_k».proof.Proof.Gen.Reference2Ideal.Run

/-! The reference of the second feed-forward block, read at an index. -/

@[expose] public section

set_option maxRecDepth 16384

noncomputable section

namespace Cert.Reference2Ideal.Ffn

open Cert.Reference2Ideal Idealize.ShloMosaic Idealize.ShloMosaic.TcCoe Cert.Ffn

variable (m : (ℓ : Loc nD τ sig) → Buf (Elt Ideal) ℓ) (c : Dev nD)

/-- The reference's result at an index, of its arguments. -/
theorem res_apply (x : Vec Ideal S2x16384x2048 .f32) (mod : Vec Ideal S2x18432 .f32) (nw : Vec Ideal S2048 .f32)
    (win : Vec Ideal S2048x11264 .f32) (wo : Vec Ideal S5632x2048 .f32) (fw : Vec Ideal S2048 .f32)
    (hx : m ((c.tc : Thread nD τ).loc main_arg0) = x) (hm : m ((c.tc : Thread nD τ).loc main_arg1) = mod)
    (hn : m ((c.tc : Thread nD τ).loc main_arg2) = nw) (hi : m ((c.tc : Thread nD τ).loc main_arg3) = win)
    (ho : m ((c.tc : Thread nD τ).loc main_arg4) = wo) (hf : m ((c.tc : Thread nD τ).loc main_arg5) = fw)
    (b : Fin 2) (s : Fin 16384) (d : Fin 2048) :
    (Value.res_out0 m c : Vec Ideal S2x16384x2048 .f32) (ix3 b s d)
      = resid (fun k => x (ix3 b s k)) (fun k => mod (ix2 b ⟨16384 + k.val, by omega⟩))
          (block (normed (fun k => x (ix3 b s k)) (fun k => nw (ix1 k)) (fun k => mod (ix2 b ⟨14336 + k.val, by omega⟩))
            (fun k => mod (ix2 b ⟨12288 + k.val, by omega⟩))) (fun k f => win (ix2 k f)) (fun f d => wo (ix2 f d))) d
        * rms (resid (fun k => x (ix3 b s k)) (fun k => mod (ix2 b ⟨16384 + k.val, by omega⟩))
          (block (normed (fun k => x (ix3 b s k)) (fun k => nw (ix1 k)) (fun k => mod (ix2 b ⟨14336 + k.val, by omega⟩))
            (fun k => mod (ix2 b ⟨12288 + k.val, by omega⟩))) (fun k f => win (ix2 k f)) (fun f d => wo (ix2 f d))))
        * fw (ix1 d) := by
  unfold Value.res_out0 Value.res_main_v60
  rw [hx, hm, hn, hi, ho, hf]
  unfold resid rms block unit normed rms Ideal.logistic
  pointwise [mul_assoc]

end Cert.Reference2Ideal.Ffn
-- ==== Proof.FfnClaim.lean ====
module

public import proofs.«01_k».proof.Defs
public import proofs.«01_k».proof.Proof.FfnPoints
public import proofs.«01_k».proof.Proof.FfnRef
public import Idealize.ShloMosaic.Lib.Quiescent
public import proofs.«01_k».proof.Proof.Gen.Kernel2.Frame

/-! The second feed-forward block: kernel and reference side by side. -/

@[expose] public section

set_option maxRecDepth 16384

noncomputable section

namespace Cert.Proof

open Idealize.ShloMosaic Idealize.SL.Sem

/-- One value of both programs' results, entry by entry. -/
theorem ffn2_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h0 : m' ((c.tc : Thread Cert.Reference2Ideal.nD Cert.Reference2Ideal.τ).loc Cert.Reference2Ideal.main_arg0) = Cert.Kernel2Ideal.Ffn.aX m c)
    (h1 : m' ((c.tc : Thread Cert.Reference2Ideal.nD Cert.Reference2Ideal.τ).loc Cert.Reference2Ideal.main_arg1) = Cert.Kernel2Ideal.Ffn.aM m c)
    (h2 : m' ((c.tc : Thread Cert.Reference2Ideal.nD Cert.Reference2Ideal.τ).loc Cert.Reference2Ideal.main_arg2) = Cert.Kernel2Ideal.Ffn.aN m c)
    (h3 : m' ((c.tc : Thread Cert.Reference2Ideal.nD Cert.Reference2Ideal.τ).loc Cert.Reference2Ideal.main_arg3) = Cert.Kernel2Ideal.Ffn.aI m c)
    (h4 : m' ((c.tc : Thread Cert.Reference2Ideal.nD Cert.Reference2Ideal.τ).loc Cert.Reference2Ideal.main_arg4) = Cert.Kernel2Ideal.Ffn.aO m c)
    (h5 : m' ((c.tc : Thread Cert.Reference2Ideal.nD Cert.Reference2Ideal.τ).loc Cert.Reference2Ideal.main_arg5) = Cert.Kernel2Ideal.Ffn.aF m c) :
    Cert.Reference2Ideal.Value.res_main_v60 m' c = Cert.Kernel2Ideal.Value.G7 m c := by
  funext i
  obtain ⟨b, s, d, rfl⟩ : ∃ (b : Fin 2) (s : Fin 16384) (d : Fin 2048), i = ix3 b s d := ⟨i 0, i 1, i 2, by blk_ext⟩
  exact (Cert.Reference2Ideal.Ffn.res_apply m' c _ _ _ _ _ _ h0 h1 h2 h3 h4 h5 b s d).trans (Cert.Kernel2Ideal.Ffn.G7_apply m c b s d).symm

theorem ffn2_frame [h : Cert.Kernel2.Facts] : quiescent_Kernel2 (hKernel2 := h) := fun m ρ _ => Cert.Kernel2.Gen.frame m ρ
theorem ffn2_frame_ideal [h : Cert.Kernel2Ideal.Facts] : quiescent_Kernel2Ideal (hKernel2Ideal := h) := fun m ρ _ => Cert.Kernel2Ideal.Gen.frame m ρ
theorem ffn2_frame_ref [h : Cert.Reference2Ideal.Facts] : quiescent_Reference2Ideal (hReference2Ideal := h) := fun m ρ _ =>
  (θ_run Cert.Reference2Ideal.defs _ _).mono (fun r hr => ⟨fun c => (hr c).2, sem_eq_zero_of_no_sems rfl r.2⟩) (Cert.Reference2Ideal.Value.run m ρ)

theorem ffn2_algebraic [Cert.Kernel2Ideal.Facts] [Cert.Reference2Ideal.Facts] : algebraic_Kernel2Ideal_Reference2Ideal := by
  intro m g m' g' _ hm
  refine ⟨fun c => Cert.Kernel2Ideal.Value.G7 m c, Cert.Kernel2Ideal.Value.run m g, ?_⟩
  refine (θ_run Cert.Reference2Ideal.defs _ _).mono (fun r h c => ?_) (Cert.Reference2Ideal.Value.run m' g')
  obtain ⟨h0, h1, h2, h3, h4, h5⟩ := hm c
  exact ⟨(h c).1.trans (ffn2_eq m m' c h0 h1 h2 h3 h4 h5), (h c).2⟩

end Cert.Proof
-- ==== Proof.FfnOnePoints.lean ====
module

public import proofs.«01_k».proof.Proof.FfnMath
public import proofs.«01_k».proof.Proof.Gen.Kernel3Ideal.Skeleton
public import proofs.«01_k».proof.Proof.Gen.Kernel3Ideal.Value
public import Idealize.ShloMosaic.Lib.Pipeline.ValueKit
public import Idealize.ShloMosaic.Lib.Pipeline.ReadBack

/-! The first feed-forward kernel, point by point: its blocks as parts of the arguments. -/

@[expose] public section

set_option maxRecDepth 16384

noncomputable section

namespace Cert.Kernel3Ideal.Ffn

open Cert.Kernel3Ideal Cert.Kernel3Ideal.Gen Idealize.ShloMosaic Idealize.ShloMosaic.TcCoe Cert.Ffn
open scoped BigOperators

variable (m : (ℓ : Loc nD τ sig) → Buf (Elt Ideal) ℓ) (c : Dev nD)

theorem pay1_apply (v25 v27 : Vec Ideal S1x1x2048 .f32) (v29 : Vec Ideal S1x512x2048 .f32) (v31 : Vec Ideal S1x2048 .f32)
    (r : Fin 512) (k : Fin 2048) :
    k0_pay1 (F := Ideal) v25 v27 v29 v31 (ix2 r k)
      = normed (fun k => v29 (ix3 0 r k)) (fun k => v31 (ix2 0 k)) (fun k => v27 (ix3 0 0 k)) (fun k => v25 (ix3 0 0 k)) k :=
  Cert.Kernel2Ideal.Ffn.pay1_apply v25 v27 v29 v31 r k

theorem pay3_apply (h : Vec Ideal S512x2048 .bf16) (wg wu : Vec Ideal S2048x512 .bf16) (acc : Vec Ideal S512x2048 .f32)
    (wo : Vec Ideal S512x2048 .bf16) (r : Fin 512) (d : Fin 2048) :
    k0_pay3 (F := Ideal) h wg wu acc wo (ix2 r d)
      = acc (ix2 r d) + ∑ f : Fin 512, unit (fun k => h (ix2 r k)) (fun k => wg (ix2 k f)) (fun k => wu (ix2 k f)) * wo (ix2 f d) :=
  Cert.Kernel2Ideal.Ffn.pay3_apply h wg wu acc wo r d

theorem pay4_apply (v25 : Vec Ideal S1x1x2048 .f32) (v27 : Vec Ideal S1x512x2048 .f32) (acc : Vec Ideal S512x2048 .f32)
    (r : Fin 512) (k : Fin 2048) :
    k0_pay4 (F := Ideal) v25 v27 acc (ix3 0 r k)
      = resid (fun k => v27 (ix3 0 r k)) (fun k => v25 (ix3 0 0 k)) (fun k => acc (ix2 r k)) k := by
  unfold k0_pay4 resid
  pointwise

/-- The arguments' arrays. -/
abbrev aX : Vec Ideal S2x16384x2048 .f32 := m ((c.tc : Thread nD τ).loc main_arg0)
abbrev aM : Vec Ideal S2x18432 .f32 := m ((c.tc : Thread nD τ).loc main_arg1)
abbrev aN : Vec Ideal S2048 .f32 := m ((c.tc : Thread nD τ).loc main_arg2)
abbrev aI : Vec Ideal S2048x11264 .f32 := m ((c.tc : Thread nD τ).loc main_arg3)
abbrev aO : Vec Ideal S5632x2048 .f32 := m ((c.tc : Thread nD τ).loc main_arg4)
abbrev aF : Vec Ideal S2048 .f32 := m ((c.tc : Thread nD τ).loc main_arg5)

theorem V0 : (V m c main_v0 : Vec Ideal S2x9x2048 .f32) = shapeCast S2x9x2048 (aM m c) shapeCasts_S2x18432_S2x9x2048 := by
  dsimp only [V, hostOps0]; after_results_simp; rfl
theorem V1 : (V m c main_v1 : Vec Ideal S2048x11264 .bf16) = aI m c := by
  dsimp only [V, hostOps0]; after_results_simp; rfl
theorem V2 : (V m c main_v2 : Vec Ideal S5632x2048 .bf16) = aO m c := by
  dsimp only [V, hostOps0]; after_results_simp; rfl
theorem V3 : (V m c main_v3 : Vec Ideal S1x2048 .f32) = shapeCast S1x2048 (aN m c) shapeCasts_S2048_S1x2048 := by
  dsimp only [V, hostOps0]; after_results_simp; rfl
theorem V4 : (V m c main_v4 : Vec Ideal S1x2048 .f32) = shapeCast S1x2048 (aF m c) shapeCasts_S2048_S1x2048 := by
  dsimp only [V, hostOps0]; after_results_simp; rfl

theorem e0 : ∀ t : Fin cfg0.N, win0_0.index t = ![t.val / 352, t.val / 11 % 32, 0] := (by decide +kernel : ∀ t : Fin grid0.N, _)
theorem e1 : ∀ t : Fin cfg0.N, win0_1.index t = ![t.val / 352, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, t.val % 11] := (by decide +kernel : ∀ t : Fin grid0.N, _)
theorem e4 : ∀ t : Fin cfg0.N, win0_4.index t = ![0, t.val % 11 + 11] := (by decide +kernel : ∀ t : Fin grid0.N, _)
theorem e5 : ∀ t : Fin cfg0.N, win0_5.index t = ![t.val % 11, 0] := (by decide +kernel : ∀ t : Fin grid0.N, _)
theorem e6 : ∀ t : Fin cfg0.N, win0_6.index t = ![0, 0] := (by decide +kernel : ∀ t : Fin grid0.N, _)

theorem lt704 (t : Fin cfg0.N) : t.val < 704 := t.isLt

/-- The batch row and the sequence row of point `t`'s block row `r`. -/
def bOf (t : Fin cfg0.N) : Fin 2 := ⟨t.val / 352, by have := lt704 t; omega⟩
def sOf (t : Fin cfg0.N) (r : Fin 512) : Fin 16384 := ⟨512 * (t.val / 11 % 32) + r.val, by omega⟩

theorem iblk0 (t : Fin cfg0.N) (r : Fin 512) (k : Fin 2048) :
    (iblk m c 0 t : Vec Ideal S1x512x2048 .f32) (ix3 0 r k) = aX m c (ix3 (bOf t) (sOf t r) k) := by
  blk_simp [iblk]
  rw [V_main_arg0]
  blk_ext [e0, bOf, sOf]

theorem iblk1 (t : Fin cfg0.N) (j : Fin 9) (k : Fin 2048) :
    (iblk m c 1 t : Vec Ideal S1x9x2048 .f32) (ix3 0 j k) = aM m c (ix2 (bOf t) ⟨2048 * j.val + k.val, by omega⟩) := by
  blk_simp [iblk]
  have h := congrFun (V0 m c) (ix3 (bOf t) j k)
  have e : ((win0_1.blk t).view.emb (ix3 0 j k) : S2x9x2048.Idx) = ix3 (bOf t) j k := by blk_ext [e1, bOf]
  rw [e]
  refine h.trans ?_
  refine (shapeCast_apply _ _ _ (ix2 (bOf t) ⟨2048 * j.val + k.val, by omega⟩) ?_).trans rfl
  simp only [Shape.rowMajor_val_two, Shape.rowMajor_val_three]
  show (bOf t).val * 18432 + (2048 * j.val + k.val) = ((bOf t).val * 9 + j.val) * 2048 + k.val
  omega

theorem iblk2 (t : Fin cfg0.N) (k : Fin 2048) :
    (iblk m c 2 t : Vec Ideal S1x2048 .f32) (ix2 0 k) = aN m c (ix1 k) := by
  blk_simp [iblk]
  have e : ((win0_2.blk t).view.emb (ix2 0 k) : S1x2048.Idx) = ix2 0 k := by blk_ext [e2]
  rw [e]
  refine (congrFun (V3 m c) (ix2 0 k)).trans ?_
  pointwise

theorem iblk3 (t : Fin cfg0.N) (k : Fin 2048) (f : Fin 512) :
    (iblk m c 3 t : Vec Ideal S2048x512 .bf16) (ix2 k f) = aI m c (ix2 k ⟨512 * (t.val % 11) + f.val, by omega⟩) := by
  blk_simp [iblk]
  refine (congrFun (V1 m c) _).trans ?_
  blk_ext [e3]

theorem iblk4 (t : Fin cfg0.N) (k : Fin 2048) (f : Fin 512) :
    (iblk m c 4 t : Vec Ideal S2048x512 .bf16) (ix2 k f) = aI m c (ix2 k ⟨5632 + (512 * (t.val % 11) + f.val), by omega⟩) := by
  blk_simp [iblk]
  refine (congrFun (V1 m c) _).trans ?_
  blk_ext [e4]

theorem iblk5 (t : Fin cfg0.N) (f : Fin 512) (d : Fin 2048) :
    (iblk m c 5 t : Vec Ideal S512x2048 .bf16) (ix2 f d) = aO m c (ix2 ⟨512 * (t.val % 11) + f.val, by omega⟩ d) := by
  blk_simp [iblk]
  refine (congrFun (V2 m c) _).trans ?_
  blk_ext [e5]

/-- A row of the modulation block. -/
theorem ld_mod (x : Vec Ideal S1x9x2048 .f32) (j : ℕ) (hj : j < 9) (inb) (k : Fin 2048) :
    (View.ld x (Rect.unit (s := S1x9x2048) ![0, j, 0] S1x1x2048.size inb) : Vec Ideal S1x1x2048 .f32) (ix3 0 0 k) = x (ix3 0 ⟨j, hj⟩ k) := by
  refine View.ld_unit_apply_of x _ _ inb (ix3 0 0 k) (ix3 0 ⟨j, hj⟩ k) ?_
  intro a
  fin_cases a <;> simp [ix3]

/-- The normalised row the kernel keeps for the block's row. -/
def hrow (b : Fin 2) (s : Fin 16384) : Fin 2048 → EReal :=
  normed (fun k => aX m c (ix3 b s k)) (fun k => aN m c (ix1 k)) (fun k => aM m c (ix2 b ⟨2048 + k.val, by omega⟩))
    (fun k => aM m c (ix2 b ⟨k.val, by omega⟩))

/-- What point `t` adds to its accumulator. -/
def term (t : Fin cfg0.N) (i : S512x2048.Idx) : EReal :=
  ∑ f : Fin 512, unit (hrow m c (bOf t) (sOf t (i 0))) (fun k => aI m c (ix2 k ⟨512 * (t.val % 11) + f.val, by omega⟩))
    (fun k => aI m c (ix2 k ⟨5632 + (512 * (t.val % 11) + f.val), by omega⟩)) * aO m c (ix2 ⟨512 * (t.val % 11) + f.val, by omega⟩ (i 1))

theorem pay1_at (t : Fin cfg0.N) (r : Fin 512) (k : Fin 2048) :
    k0_pay1 (F := Ideal) (View.ld (iblk m c 1 t) (Rect.unit (s := S1x9x2048) ![0, 0, 0] S1x1x2048.size inb_S1x9x2048_S1x1x2048_0_0_0))
      (View.ld (iblk m c 1 t) (Rect.unit (s := S1x9x2048) ![0, 1, 0] S1x1x2048.size inb_S1x9x2048_S1x1x2048_0_1_0)) (iblk m c 0 t)
      (iblk m c 2 t) (ix2 r k) = hrow m c (bOf t) (sOf t r) k := by
  refine (pay1_apply _ _ _ _ r k).trans ?_
  unfold hrow
  congr 1 <;> funext k'
  · exact iblk0 m c t r k'
  · exact iblk2 m c t k'
  · exact (ld_mod _ 1 (by decide) _ k').trans (iblk1 m c t 1 k')
  · exact (ld_mod _ 0 (by decide) _ k').trans ((iblk1 m c t 0 k').trans (by blk_ext))

theorem sub_one_of {t : Fin cfg0.N} (h0 : ¬t.val % 11 = 0) : t.val - 1 < cfg0.N := lt_of_le_of_lt (Nat.sub_le _ _) t.isLt

theorem bs_pred (t : Fin cfg0.N) (h0 : ¬t.val % 11 = 0) (r : Fin 512) :
    bOf ⟨t.val - 1, sub_one_of h0⟩ = bOf t ∧ sOf ⟨t.val - 1, sub_one_of h0⟩ r = sOf t r := by
  constructor
  · apply Fin.ext; show (t.val - 1) / 352 = t.val / 352; omega
  · apply Fin.ext; show 512 * ((t.val - 1) / 11 % 32) + r.val = 512 * (t.val / 11 % 32) + r.val; omega

/-- The carried normalised rows, at every point. -/
theorem hs (n : ℕ) : ∀ (hn : n < cfg0.N) (r : Fin 512) (k : Fin 2048),
    (outsAt0 m c n hn).2.1 (ix2 r k) = hrow m c (bOf ⟨n, hn⟩) (sOf ⟨n, hn⟩ r) k := by
  induction n with
  | zero =>
    intro hn r k
    have e := outsAt0_A m c ⟨0, hn⟩ (by show 0 % 11 = 0; decide) (by show ¬ 0 % 11 = 10; decide)
    simp only at e
    rw [e]
    frame_out
    exact pay1_at m c ⟨0, hn⟩ r k
  | succ n ih =>
    intro hn r k
    by_cases h0 : (n + 1) % 11 = 0
    · have e := outsAt0_A m c ⟨n + 1, hn⟩ h0 (by simp only; omega)
      simp only at e
      rw [e]
      frame_out
      exact pay1_at m c ⟨n + 1, hn⟩ r k
    · have hp := bs_pred ⟨n + 1, hn⟩ h0 r
      have i0 := ih (by omega) r k
      have i1 : (outsAt0 m c n (by omega)).2.1 (ix2 r k) = hrow m c (bOf ⟨n + 1, hn⟩) (sOf ⟨n + 1, hn⟩ r) k := by
        rw [← hp.1, ← hp.2]; exact i0
      by_cases h1 : (n + 1) % 11 = 10
      · have e := outsAt0_C m c ⟨n + 1, hn⟩ h0 h1
        simp only at e
        rw [e]
        exact i1
      · have e := outsAt0_B m c ⟨n + 1, hn⟩ h0 h1
        simp only at e
        rw [e]
        exact i1

/-- One point's addition to the accumulator, of the carried rows. -/
theorem pay3_at (t : Fin cfg0.N) (h : Vec Ideal S512x2048 .bf16) (hh : ∀ (r : Fin 512) k, h (ix2 r k) = hrow m c (bOf t) (sOf t r) k)
    (acc : Vec Ideal S512x2048 .f32) (i : S512x2048.Idx) :
    k0_pay3 (F := Ideal) h (iblk m c 3 t) (iblk m c 4 t) acc (iblk m c 5 t) i = acc i + term m c t i := by
  obtain ⟨r, d, rfl⟩ : ∃ (r : Fin 512) (d : Fin 2048), i = ix2 r d := ⟨i 0, i 1, by blk_ext⟩
  refine (pay3_apply _ _ _ _ _ r d).trans ?_
  unfold term
  congr 1
  refine Finset.sum_congr rfl fun f _ => ?_
  congr 1
  · congr 1
    · funext k; exact hh r k
    · funext k; exact iblk3 m c t k f
    · funext k; exact iblk4 m c t k f
  · exact iblk5 m c t f d

theorem pay2_zero (i : S512x2048.Idx) : k0_pay2 (F := Ideal) i = 0 := by
  unfold k0_pay2
  pointwise

/-- The accumulator, at every point: the run's additions so far. -/
theorem acc_step_A (t : Fin cfg0.N) (h : t.val % 11 = 0) (i : S512x2048.Idx) :
    (outsAt0 m c t.val t.isLt).2.2 i = (fun _ => 0 : S512x2048.Idx → EReal) i + term m c t i := by
  rw [outsAt0_A m c t h (by omega)]
  frame_out
  refine (pay3_at m c t _ (fun r k => pay1_at m c t r k) _ i).trans ?_
  rw [pay2_zero]

theorem acc_step_B (t : Fin cfg0.N) (h : ¬t.val % 11 = 0) (i : S512x2048.Idx) :
    (outsAt0 m c t.val t.isLt).2.2 i = (outsAt0 m c (t.val - 1) (sub_one_of h)).2.2 i + term m c t i := by
  have hh : ∀ (r : Fin 512) k, (outsAt0 m c (t.val - 1) (sub_one_of h)).2.1 (ix2 r k) = hrow m c (bOf t) (sOf t r) k := fun r k => by
    rw [hs, (bs_pred t h r).1, (bs_pred t h r).2]
  by_cases h1 : t.val % 11 = 10
  · rw [outsAt0_C m c t h h1]
    frame_out
    rw [Idealize.ShloMosaic.read_unread_whole, Idealize.ShloMosaic.read_unread_whole]
    exact pay3_at m c t _ hh _ i
  · rw [outsAt0_B m c t h h1]
    frame_out
    rw [Idealize.ShloMosaic.read_unread_whole, Idealize.ShloMosaic.read_unread_whole]
    exact pay3_at m c t _ hh _ i

theorem acc_last (t : Fin cfg0.N) (h : t.val % 11 = 11 - 1) (r : Fin 512) (d : Fin 2048) :
    (outsAt0 m c t.val t.isLt).2.2 (ix2 r d) = block (hrow m c (bOf t) (sOf t r)) (fun k f => aI m c (ix2 k f)) (fun f d => aO m c (ix2 f d)) d := by
  have e := Pipeline.eq_sum_fin_of_reset_step_apply_of_flush (fun n h => (outsAt0 m c n h).2.2) 11 (fun _ => (0 : EReal)) (term m c)
    (acc_step_A m c) (fun t h i => acc_step_B m c t h i) t h (ix2 r d)
  refine e.trans ?_
  rw [zero_add]
  unfold block
  refine Fin.sum_mul_add_congr (S := 11) (n := 512) fun s f hl => ?_
  have e1 : bOf ⟨11 * (t.val / 11) + s.val, Pipeline.run_point_lt_of_flush t h s⟩ = bOf t := by
    apply Fin.ext; show (11 * (t.val / 11) + s.val) / 352 = t.val / 352; omega
  have e2 : sOf ⟨11 * (t.val / 11) + s.val, Pipeline.run_point_lt_of_flush t h s⟩ r = sOf t r := by
    apply Fin.ext; show 512 * ((11 * (t.val / 11) + s.val) / 11 % 32) + r.val = 512 * (t.val / 11 % 32) + r.val; omega
  have e3 : 512 * ((11 * (t.val / 11) + s.val) % 11) + f.val = s.val * 512 + f.val := by omega
  simp only [term, ix2, e1, e2, e3]

/-- The row the last point of a run writes. -/
def orow (b : Fin 2) (s : Fin 16384) : Fin 2048 → EReal :=
  resid (fun k => aX m c (ix3 b s k)) (fun k => aM m c (ix2 b ⟨4096 + k.val, by omega⟩))
    (block (hrow m c b s) (fun k f => aI m c (ix2 k f)) (fun f d => aO m c (ix2 f d)))

theorem pay4_at (t : Fin cfg0.N) (acc : Vec Ideal S512x2048 .f32)
    (ha : ∀ (r : Fin 512) d, acc (ix2 r d) = block (hrow m c (bOf t) (sOf t r)) (fun k f => aI m c (ix2 k f)) (fun f d => aO m c (ix2 f d)) d)
    (r : Fin 512) (d : Fin 2048) :
    k0_pay4 (F := Ideal) (View.ld (iblk m c 1 t) (Rect.unit (s := S1x9x2048) ![0, 2, 0] S1x1x2048.size inb_S1x9x2048_S1x1x2048_0_2_0))
      (iblk m c 0 t) acc (ix3 0 r d)
      = orow m c (bOf t) (sOf t r) d := by
  refine (pay4_apply _ _ _ r d).trans ?_
  have e : resid (fun k => (iblk m c 0 t : Vec Ideal S1x512x2048 .f32) (ix3 0 r k))
      (fun k => (View.ld (iblk m c 1 t) (Rect.unit (s := S1x9x2048) ![0, 2, 0] S1x1x2048.size inb_S1x9x2048_S1x1x2048_0_2_0) : Vec Ideal S1x1x2048 .f32) (ix3 0 0 k))
      (fun k => acc (ix2 r k)) = orow m c (bOf t) (sOf t r) := by
    unfold orow
    congr 1 <;> funext k'
    · exact iblk0 m c t r k'
    · exact (ld_mod _ 2 (by decide) _ k').trans (iblk1 m c t 2 k')
    · exact ha r k'
  rw [e]

theorem out_last (t : Fin cfg0.N) (h : t.val % 11 = 10) (r : Fin 512) (d : Fin 2048) :
    (outsAt0 m c t.val t.isLt).1 (ix3 0 r d)
      = orow m c (bOf t) (sOf t r) d := by
  have ha := fun r d => acc_last m c t h r d
  rw [outsAt0_C m c t (by omega) h] at ha ⊢
  frame_out at ha
  frame_out
  exact pay4_at m c t _ ha r d

/-- The kernel's result at an index. -/
theorem G7_apply (b : Fin 2) (s : Fin 16384) (d : Fin 2048) :
    (Value.G7 m c : Vec Ideal S2x16384x2048 .f32) (ix3 b s d) = orow m c b s d := by
  have hp : Value.pt7Of (ix3 b s d) = 352 * b.val + 11 * (s.val / 512) + 10 := by
    show 11 * (32 * (b.val / 1 - 0) + 1 * (s.val / 512 - 0) + 1 * (d.val / 2048 - 0)) + 10 = _
    omega
  have hlt : 352 * b.val + 11 * (s.val / 512) + 10 < cfg0.N := by
    show _ < 704
    omega
  have hl : Value.loc7Of (ix3 b s d) = ix3 0 ⟨s.val % 512, by omega⟩ d := by
    funext a
    apply Fin.ext
    fin_cases a
    · show b.val % 1 = 0; omega
    · rfl
    · show d.val % 2048 = d.val; omega
  have key := out_last m c ⟨352 * b.val + 11 * (s.val / 512) + 10, hlt⟩ (by simp only; omega) ⟨s.val % 512, by omega⟩ d
  have eb : bOf ⟨352 * b.val + 11 * (s.val / 512) + 10, hlt⟩ = b := by
    apply Fin.ext; show (352 * b.val + 11 * (s.val / 512) + 10) / 352 = b.val; omega
  have es : sOf ⟨352 * b.val + 11 * (s.val / 512) + 10, hlt⟩ ⟨s.val % 512, by omega⟩ = s := by
    apply Fin.ext
    show 512 * ((352 * b.val + 11 * (s.val / 512) + 10) / 11 % 32) + s.val % 512 = s.val
    omega
  rw [eb, es] at key
  simp only [Value.outsAt0_sweep] at key
  rw [← key]
  unfold Value.G7
  rw [dif_pos (by rw [hp]; exact hlt), hl]
  exact congrArg (fun p : Vec Ideal S1x512x2048 .f32 × Vec Ideal S512x2048 .bf16 × Vec Ideal S512x2048 .f32 => p.1 (ix3 0 ⟨s.val % 512, by omega⟩ d))
    (Value.fold0_congr m c _ _ _ _ hp)

end Cert.Kernel3Ideal.Ffn
-- ==== Proof.FfnOneRef.lean ====
module

public import proofs.«01_k».proof.Proof.FfnMath
public import proofs.«01_k».proof.Proof.Gen.Reference3Ideal.Run

/-! The reference of the first feed-forward block, read at an index. -/

@[expose] public section

set_option maxRecDepth 16384

noncomputable section

namespace Cert.Reference3Ideal.Ffn

open Cert.Reference3Ideal Idealize.ShloMosaic Idealize.ShloMosaic.TcCoe Cert.Ffn

variable (m : (ℓ : Loc nD τ sig) → Buf (Elt Ideal) ℓ) (c : Dev nD)

/-- The reference's result at an index, of its arguments. -/
theorem res_apply (x : Vec Ideal S2x16384x2048 .f32) (mod : Vec Ideal S2x18432 .f32) (nw : Vec Ideal S2048 .f32)
    (win : Vec Ideal S2048x11264 .f32) (wo : Vec Ideal S5632x2048 .f32)
    (hx : m ((c.tc : Thread nD τ).loc main_arg0) = x) (hm : m ((c.tc : Thread nD τ).loc main_arg1) = mod)
    (hn : m ((c.tc : Thread nD τ).loc main_arg2) = nw) (hi : m ((c.tc : Thread nD τ).loc main_arg3) = win)
    (ho : m ((c.tc : Thread nD τ).loc main_arg4) = wo)
    (b : Fin 2) (s : Fin 16384) (d : Fin 2048) :
    (Value.res_out0 m c : Vec Ideal S2x16384x2048 .f32) (ix3 b s d)
      = resid (fun k => x (ix3 b s k)) (fun k => mod (ix2 b ⟨4096 + k.val, by omega⟩))
          (block (normed (fun k => x (ix3 b s k)) (fun k => nw (ix1 k)) (fun k => mod (ix2 b ⟨2048 + k.val, by omega⟩))
            (fun k => mod (ix2 b ⟨k.val, by omega⟩))) (fun k f => win (ix2 k f)) (fun f d => wo (ix2 f d))) d := by
  unfold Value.res_out0 Value.res_main_v47
  rw [hx, hm, hn, hi, ho]
  unfold resid block unit normed rms Ideal.logistic
  pointwise [mul_assoc]

end Cert.Reference3Ideal.Ffn
-- ==== Proof.FfnOneClaim.lean ====
module

public import proofs.«01_k».proof.Defs
public import proofs.«01_k».proof.Proof.FfnOnePoints
public import proofs.«01_k».proof.Proof.FfnOneRef
public import Idealize.ShloMosaic.Lib.Quiescent
public import proofs.«01_k».proof.Proof.Gen.Kernel3.Frame

/-! The first feed-forward block: kernel and reference side by side. -/

@[expose] public section

set_option maxRecDepth 16384

noncomputable section

namespace Cert.Proof

open Idealize.ShloMosaic Idealize.SL.Sem

/-- One value of both programs' results, entry by entry. -/
theorem ffn1_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (h0 : m' ((c.tc : Thread Cert.Reference3Ideal.nD Cert.Reference3Ideal.τ).loc Cert.Reference3Ideal.main_arg0) = Cert.Kernel3Ideal.Ffn.aX m c)
    (h1 : m' ((c.tc : Thread Cert.Reference3Ideal.nD Cert.Reference3Ideal.τ).loc Cert.Reference3Ideal.main_arg1) = Cert.Kernel3Ideal.Ffn.aM m c)
    (h2 : m' ((c.tc : Thread Cert.Reference3Ideal.nD Cert.Reference3Ideal.τ).loc Cert.Reference3Ideal.main_arg2) = Cert.Kernel3Ideal.Ffn.aN m c)
    (h3 : m' ((c.tc : Thread Cert.Reference3Ideal.nD Cert.Reference3Ideal.τ).loc Cert.Reference3Ideal.main_arg3) = Cert.Kernel3Ideal.Ffn.aI m c)
    (h4 : m' ((c.tc : Thread Cert.Reference3Ideal.nD Cert.Reference3Ideal.τ).loc Cert.Reference3Ideal.main_arg4) = Cert.Kernel3Ideal.Ffn.aO m c) :
    Cert.Reference3Ideal.Value.res_main_v47 m' c = Cert.Kernel3Ideal.Value.G7 m c := by
  funext i
  obtain ⟨b, s, d, rfl⟩ : ∃ (b : Fin 2) (s : Fin 16384) (d : Fin 2048), i = ix3 b s d := ⟨i 0, i 1, i 2, by blk_ext⟩
  exact (Cert.Reference3Ideal.Ffn.res_apply m' c _ _ _ _ _ h0 h1 h2 h3 h4 b s d).trans (Cert.Kernel3Ideal.Ffn.G7_apply m c b s d).symm

theorem ffn1_frame [h : Cert.Kernel3.Facts] : quiescent_Kernel3 (hKernel3 := h) := fun m ρ _ => Cert.Kernel3.Gen.frame m ρ
theorem ffn1_frame_ideal [h : Cert.Kernel3Ideal.Facts] : quiescent_Kernel3Ideal (hKernel3Ideal := h) := fun m ρ _ => Cert.Kernel3Ideal.Gen.frame m ρ
theorem ffn1_frame_ref [h : Cert.Reference3Ideal.Facts] : quiescent_Reference3Ideal (hReference3Ideal := h) := fun m ρ _ =>
  (θ_run Cert.Reference3Ideal.defs _ _).mono (fun r hr => ⟨fun c => (hr c).2, sem_eq_zero_of_no_sems rfl r.2⟩) (Cert.Reference3Ideal.Value.run m ρ)

theorem ffn1_algebraic [Cert.Kernel3Ideal.Facts] [Cert.Reference3Ideal.Facts] : algebraic_Kernel3Ideal_Reference3Ideal := by
  intro m g m' g' _ hm
  refine ⟨fun c => Cert.Kernel3Ideal.Value.G7 m c, Cert.Kernel3Ideal.Value.run m g, ?_⟩
  refine (θ_run Cert.Reference3Ideal.defs _ _).mono (fun r h c => ?_) (Cert.Reference3Ideal.Value.run m' g')
  obtain ⟨h0, h1, h2, h3, h4, _⟩ := hm c
  exact ⟨(h c).1.trans (ffn1_eq m m' c h0 h1 h2 h3 h4), (h c).2⟩

end Cert.Proof
-- ==== Proof.OutMath.lean ====
module

public import proofs.«01_k».proof.Proof.Gen.Kernel4Ideal.Value
public import Idealize.ShloMosaic.Lib.Pipeline.ValueKit
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.Pointwise.Sums

/-! The mixer's output projection on extended reals: its row functions, and the kernel's payloads read at an index. -/

@[expose] public section

set_option maxRecDepth 16384

noncomputable section

namespace Cert.Out

open Idealize.ShloMosaic
open scoped BigOperators

/-- The attention's row, normalised over its 1024 entries and weighted. -/
def attn (a na : Fin 1024 → EReal) (k : Fin 1024) : EReal :=
  a k * Ideal.rsqrt (Ideal.div (∑ k, a k * a k) (Ideal.ofBits .f32 0x44800000#32) + Ideal.ofBits .f32 0x358637BD#32) * na k

/-- One head of the recurrence's row: normalised over its 128 entries, weighted and gated. -/
def head (o z nd : Fin 128 → EReal) (v : Fin 128) : EReal :=
  o v * Ideal.rsqrt (Ideal.div (∑ k, o k * o k) (Ideal.ofBits .f32 0x43000000#32) + Ideal.ofBits .f32 0x358637BD#32) * nd v
    * (z v * Ideal.logistic (z v))

/-- Entry `v` of head `h` in a row of heads. -/
abbrev at8 (h : Fin 8) (v : Fin 128) : Fin 1024 := ⟨128 * h.val + v.val, by omega⟩
/-- The same entry below the attention's 1024. -/
abbrev lo8 (h : Fin 8) (v : Fin 128) : Fin 2048 := ⟨1024 + (128 * h.val + v.val), by omega⟩

/-- One entry of the projected row. -/
def proj (a na : Fin 1024 → EReal) (o z : Fin 1024 → EReal) (nd : Fin 128 → EReal) (w : Fin 2048 → EReal) : EReal :=
  (∑ k : Fin 1024, attn a na k * w ⟨k.val, by omega⟩)
    + ∑ h : Fin 8, ∑ v : Fin 128, head (fun v => o (at8 h v)) (fun v => z (at8 h v)) nd v * w (lo8 h v)

end Cert.Out

namespace Cert.Kernel4Ideal.Out

open Cert.Kernel4Ideal Cert.Kernel4Ideal.Gen Idealize.ShloMosaic Cert.Out
open scoped BigOperators

variable (r : Fin 512) (v : Fin 128) (o z : FVec Ideal S512x1024 .f32) (nd : Vec Ideal S1x128 .f32)

theorem pay8_apply (v32 v35 v39 : Vec Ideal S1x512x1024 .bf16) :
    k0_pay8 (F := Ideal) v32 v35 v39 nd (ix2 r v)
      = head (fun v => k0_pay6 (F := Ideal) v32 v35 (ix2 r (at8 0 v))) (fun v => k0_pay7 (F := Ideal) v39 (ix2 r (at8 0 v))) (fun v => nd (ix2 0 v)) v := by
  have e : ∀ v, at8 0 v = ⟨v.val, by omega⟩ := fun v => Fin.ext (by show 128 * 0 + v.val = v.val; omega)
  simp only [e]
  unfold k0_pay8 head k0_pay6 k0_pay7
  pointwise

theorem pay12_apply (v32 v35 : Vec Ideal S1x512x1024 .bf16) :
    k0_pay12 (F := Ideal) z (k0_pay9 v32 v35) (k0_pay10 nd) (k0_pay11 v32 v35) (ix2 r v)
      = head (fun v => k0_pay6 (F := Ideal) v32 v35 (ix2 r (at8 1 v))) (fun v => z (ix2 r (at8 1 v))) (fun v => nd (ix2 0 v)) v := by
  unfold k0_pay12 k0_pay9 k0_pay10 k0_pay11 k0_pay9 head k0_pay6
  pointwise
  try rfl

theorem pay13_apply : k0_pay13 (F := Ideal) o z nd (ix2 r v)
      = head (fun v => o (ix2 r (at8 2 v))) (fun v => z (ix2 r (at8 2 v))) (fun v => nd (ix2 0 v)) v := by
  unfold k0_pay13 head
  pointwise
  rfl

theorem pay16_apply : k0_pay16 (F := Ideal) z (k0_pay14 nd) (k0_pay15 o) (ix2 r v)
      = head (fun v => o (ix2 r (at8 3 v))) (fun v => z (ix2 r (at8 3 v))) (fun v => nd (ix2 0 v)) v := by
  unfold k0_pay16 k0_pay14 k0_pay15 head
  pointwise
  rfl

theorem pay17_apply : k0_pay17 (F := Ideal) o z nd (ix2 r v)
      = head (fun v => o (ix2 r (at8 4 v))) (fun v => z (ix2 r (at8 4 v))) (fun v => nd (ix2 0 v)) v := by
  unfold k0_pay17 head
  pointwise
  rfl

theorem pay18_apply : k0_pay18 (F := Ideal) o z nd (ix2 r v)
      = head (fun v => o (ix2 r (at8 5 v))) (fun v => z (ix2 r (at8 5 v))) (fun v => nd (ix2 0 v)) v := by
  unfold k0_pay18 head
  pointwise
  rfl

theorem sum_row (f : Fin 2048 → EReal) :
    ∑ k, f k = (∑ k : Fin 1024, f ⟨k.val, by omega⟩) + ∑ h : Fin 8, ∑ v : Fin 128, f (lo8 h v) := by
  have e := Fin.sum_univ_add (a := 1024) (b := 1024) f
  refine e.trans (congrArg₂ (· + ·) rfl ?_)
  refine (Fin.sum_mul_add_congr (S := 8) (n := 128) (f := fun k : Fin 1024 => f (Fin.natAdd 1024 k)) fun h v hl => congrArg f (Fin.ext ?_)).symm
  show 1024 + (128 * h.val + v.val) = 1024 + (h.val * 128 + v.val)
  omega

/-- The row of nine pieces against the weights. -/
def mm (a : FVec Ideal S512x1024 .f32) (p0 p1 p2 p3 p4 p5 p6 p7 : FVec Ideal S512x128 .f32) (w : FVec Ideal S2048x2048 .bf16) : FVec Ideal S512x2048 .f32 :=
  matmul dot_S512x2048_S2048x2048_S512x2048_1_0_0_1_n_n none
    (truncf .bf16 (concatenate S512x2048 1 [⟨S512x1024, a⟩, ⟨S512x128, p0⟩, ⟨S512x128, p1⟩, ⟨S512x128, p2⟩, ⟨S512x128, p3⟩, ⟨S512x128, p4⟩, ⟨S512x128, p5⟩, ⟨S512x128, p6⟩, ⟨S512x128, p7⟩] concatenates_S512x1024_S512x128_S512x128_S512x128_S512x128_S512x128_S512x128_S512x128_S512x128_S512x2048_d1) bitsLt_bf16_f32)
    (shapeCast S2048x2048 w shapeCasts_S2048x2048_S2048x2048) (constant S512x2048 .f32 0x00000000#32)

set_option maxHeartbeats 4000000 in
theorem mm_apply (a : FVec Ideal S512x1024 .f32) (p0 p1 p2 p3 p4 p5 p6 p7 : FVec Ideal S512x128 .f32) (w : Vec Ideal S2048x2048 .bf16) (d : Fin 2048) :
    mm a p0 p1 p2 p3 p4 p5 p6 p7 w (ix2 r d) = (∑ k : Fin 1024, a (ix2 r k) * w (ix2 ⟨k.val, by omega⟩ d))
        + ((∑ v : Fin 128, p0 (ix2 r v) * w (ix2 (lo8 0 v) d)) + (∑ v : Fin 128, p1 (ix2 r v) * w (ix2 (lo8 1 v) d))
          + (∑ v : Fin 128, p2 (ix2 r v) * w (ix2 (lo8 2 v) d)) + (∑ v : Fin 128, p3 (ix2 r v) * w (ix2 (lo8 3 v) d))
          + (∑ v : Fin 128, p4 (ix2 r v) * w (ix2 (lo8 4 v) d)) + (∑ v : Fin 128, p5 (ix2 r v) * w (ix2 (lo8 5 v) d))
          + (∑ v : Fin 128, p6 (ix2 r v) * w (ix2 (lo8 6 v) d)) + (∑ v : Fin 128, p7 (ix2 r v) * w (ix2 (lo8 7 v) d))) := by
  unfold mm
  pointwise
  rw [sum_row, Fin.sum_univ_eight]
  refine congrArg₂ (· + ·) (Finset.sum_congr rfl fun k _ => ?_) ?_
  · rw [dif_pos k.isLt]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;>
    refine Finset.sum_congr rfl fun v _ => congrArg (· * _) ?_
  all_goals
    dsimp only [lo8, Fin.val_zero, Fin.val_one, Fin.val_two, Fin.reduceFinMk, Fin.isValue, Nat.reduceMul]
    split_ifs <;> first | (exfalso; omega) | blk_ext

/-- The product over the nine pieces of the row. -/
theorem pay22_apply (a : FVec Ideal S512x1024 .f32) (p0 p1 p2 p3 p4 p5 : FVec Ideal S512x128 .f32) (w : Vec Ideal S2048x2048 .bf16) (d : Fin 2048) :
    k0_pay22 (F := Ideal) a o z p0 p1 p2 p3 p4 p5 (k0_pay19 o) (k0_pay20 nd) (k0_pay21 o) nd w (ix2 r d)
      = (∑ k : Fin 1024, a (ix2 r k) * w (ix2 ⟨k.val, by omega⟩ d))
        + ((∑ v : Fin 128, p0 (ix2 r v) * w (ix2 (lo8 0 v) d)) + (∑ v : Fin 128, p1 (ix2 r v) * w (ix2 (lo8 1 v) d))
          + (∑ v : Fin 128, p2 (ix2 r v) * w (ix2 (lo8 2 v) d)) + (∑ v : Fin 128, p3 (ix2 r v) * w (ix2 (lo8 3 v) d))
          + (∑ v : Fin 128, p4 (ix2 r v) * w (ix2 (lo8 4 v) d)) + (∑ v : Fin 128, p5 (ix2 r v) * w (ix2 (lo8 5 v) d))
          + (∑ v : Fin 128, head (fun v => o (ix2 r (at8 6 v))) (fun v => z (ix2 r (at8 6 v))) (fun v => nd (ix2 0 v)) v * w (ix2 (lo8 6 v) d))
          + (∑ v : Fin 128, head (fun v => o (ix2 r (at8 7 v))) (fun v => z (ix2 r (at8 7 v))) (fun v => nd (ix2 0 v)) v * w (ix2 (lo8 7 v) d))) := by
  obtain ⟨p6, p7, e, e6, e7⟩ : ∃ p6 p7, k0_pay22 (F := Ideal) a o z p0 p1 p2 p3 p4 p5 (k0_pay19 o) (k0_pay20 nd) (k0_pay21 o) nd w = mm a p0 p1 p2 p3 p4 p5 p6 p7 w
      ∧ (∀ v, p6 (ix2 r v) = head (fun v => o (ix2 r (at8 6 v))) (fun v => z (ix2 r (at8 6 v))) (fun v => nd (ix2 0 v)) v)
      ∧ (∀ v, p7 (ix2 r v) = head (fun v => o (ix2 r (at8 7 v))) (fun v => z (ix2 r (at8 7 v))) (fun v => nd (ix2 0 v)) v) := by
    refine ⟨_, _, rfl, fun v => ?_, fun v => ?_⟩
    · unfold k0_pay19 k0_pay20 k0_pay21 k0_pay19 head
      pointwise
      rfl
    · unfold head
      pointwise
      rfl
  rw [e, mm_apply]
  simp only [e6, e7]

theorem pay5_apply (x : Vec Ideal S1x8x512x128 .bf16) (na : Vec Ideal S1x1024 .f32) (k : Fin 1024) :
    k0_pay5 (F := Ideal) (k0_pay2 (View.ld x r0_0) (View.ld x r0_1) (View.ld x r0_2) (View.ld x r0_3) (View.ld x r0_4) (View.ld x r0_5) (View.ld x r0_6) (View.ld x r0_7))
      (k0_pay3 na) (k0_pay4 (View.ld x r0_0) (View.ld x r0_1) (View.ld x r0_2) (View.ld x r0_3) (View.ld x r0_4) (View.ld x r0_5) (View.ld x r0_6) (View.ld x r0_7)) (ix2 r k)
      = attn (fun k => k0_pay2 (F := Ideal) (View.ld x r0_0) (View.ld x r0_1) (View.ld x r0_2) (View.ld x r0_3) (View.ld x r0_4) (View.ld x r0_5) (View.ld x r0_6) (View.ld x r0_7) (ix2 r k))
          (fun k => na (ix2 0 k)) k := by
  unfold k0_pay5 k0_pay3 k0_pay4
  generalize k0_pay2 (F := Ideal) (View.ld x r0_0) (View.ld x r0_1) (View.ld x r0_2) (View.ld x r0_3) (View.ld x r0_4) (View.ld x r0_5) (View.ld x r0_6) (View.ld x r0_7) = y
  unfold attn
  pointwise

theorem ld_head (x : Vec Ideal S1x8x512x128 .bf16) (j : ℕ) (hj : j < 8) (inb) (r : Fin 512) (v : Fin 128) :
    (View.ld x (Rect.unit (s := S1x8x512x128) ![0, j, 0, 0] S1x1x512x128.size inb) : Vec Ideal S1x1x512x128 .bf16) (ix4 0 0 r v) = x (ix4 0 ⟨j, hj⟩ r v) := by
  refine View.ld_unit_apply_of x _ _ inb (ix4 0 0 r v) (ix4 0 ⟨j, hj⟩ r v) ?_
  intro a
  fin_cases a <;> simp [ix4]

theorem pay2_apply (x : Vec Ideal S1x8x512x128 .bf16) (k : Fin 1024) :
    k0_pay2 (F := Ideal) (View.ld x r0_0) (View.ld x r0_1) (View.ld x r0_2) (View.ld x r0_3) (View.ld x r0_4) (View.ld x r0_5) (View.ld x r0_6) (View.ld x r0_7) (ix2 r k)
      = x (ix4 0 ⟨k.val / 128, by omega⟩ r ⟨k.val % 128, by omega⟩) := by
  unfold k0_pay2
  pointwise
  split_ifs <;> first | exact absurd rfl (by assumption) | blk_ext

end Cert.Kernel4Ideal.Out
-- ==== Proof.OutPoints.lean ====
module

public import proofs.«01_k».proof.Proof.OutMath
public import Idealize.ShloMosaic.Lib.Pipeline.ReadBack

/-! The output projection's kernel, point by point: its blocks as parts of the arguments, and its result. -/

@[expose] public section

set_option maxRecDepth 16384

noncomputable section

namespace Cert.Kernel4Ideal.Out

open Cert.Kernel4Ideal Cert.Kernel4Ideal.Gen Idealize.ShloMosaic Idealize.ShloMosaic.TcCoe Cert.Out
open scoped BigOperators

variable (m : (ℓ : Loc nD τ sig) → Buf (Elt Ideal) ℓ) (c : Dev nD)

theorem pay6_apply (a b : Vec Ideal S1x512x1024 .bf16) (r : Fin 512) (k : Fin 1024) :
    k0_pay6 (F := Ideal) a b (ix2 r k) = a (ix3 0 r k) + b (ix3 0 r k) := by
  unfold k0_pay6
  pointwise

theorem pay7_apply (a : Vec Ideal S1x512x1024 .bf16) (r : Fin 512) (k : Fin 1024) :
    k0_pay7 (F := Ideal) a (ix2 r k) = a (ix3 0 r k) := by
  unfold k0_pay7
  pointwise

theorem pay1_apply (y : FVec Ideal S512x2048 .f32) (x : Vec Ideal S1x512x2048 .f32) (g : Vec Ideal S1x1x2048 .f32) (r : Fin 512) (d : Fin 2048) :
    k0_pay1 (F := Ideal) y (k0_pay23 x) (k0_pay24 g) (ix3 0 r d) = x (ix3 0 r d) + g (ix3 0 0 d) * y (ix2 r d) := by
  unfold k0_pay1 k0_pay23 k0_pay24
  pointwise

/-- A row of the modulation block. -/
theorem ld_mod (x : Vec Ideal S1x9x2048 .f32) (j : ℕ) (hj : j < 9) (inb) (k : Fin 2048) :
    (View.ld x (Rect.unit (s := S1x9x2048) ![0, j, 0] S1x1x2048.size inb) : Vec Ideal S1x1x2048 .f32) (ix3 0 0 k) = x (ix3 0 ⟨j, hj⟩ k) := by
  refine View.ld_unit_apply_of x _ _ inb (ix3 0 0 k) (ix3 0 ⟨j, hj⟩ k) ?_
  intro a
  fin_cases a <;> simp [ix3]

/-- What the body stores, of the blocks it reads. -/
theorem out_apply (x0 : Vec Ideal S1x512x2048 .f32) (x1 : Vec Ideal S1x9x2048 .f32) (x2 : Vec Ideal S1x8x512x128 .bf16)
    (x3 x4 x5 : Vec Ideal S1x512x1024 .bf16) (x6 : Vec Ideal S1x1024 .f32) (x7 : Vec Ideal S1x128 .f32) (x8 : Vec Ideal S2048x2048 .bf16)
    (r : Fin 512) (d : Fin 2048) :
    out0_9 (F := Ideal) x0 x1 x2 x3 x4 x5 x6 x7 x8 (ix3 0 r d)
      = x0 (ix3 0 r d) + x1 (ix3 0 5 d) * proj (fun k => x2 (ix4 0 ⟨k.val / 128, by omega⟩ r ⟨k.val % 128, by omega⟩)) (fun k => x6 (ix2 0 k))
          (fun k => x3 (ix3 0 r k) + x4 (ix3 0 r k)) (fun k => x5 (ix3 0 r k)) (fun v => x7 (ix2 0 v)) (fun k => x8 (ix2 k d)) := by
  frame_out
  refine (pay1_apply _ _ _ r d).trans ?_
  refine congrArg₂ (· + ·) rfl (congrArg₂ (· * ·) (ld_mod x1 5 (by decide) _ d) ?_)
  refine (pay22_apply _ _ _ _ _ _ _ _ _ _ _ _ _).trans ?_
  unfold proj
  rw [Fin.sum_univ_eight]
  simp only [pay5_apply, pay2_apply, pay8_apply, pay12_apply, pay13_apply, pay16_apply, pay17_apply, pay18_apply, k0_pay25, k0_pay26]
  have w9 : ∀ x : Vec Ideal S1x512x1024 .bf16, (View.ld x r0_9 : Vec Ideal S1x512x1024 .bf16) = x := fun x => by
    funext i
    exact View.ld_unit_apply_of x _ _ _ i i fun a => by fin_cases a <;> simp
  simp only [w9, pay6_apply, pay7_apply]

/-- The arguments' arrays. -/
abbrev aX : Vec Ideal S2x16384x2048 .f32 := m ((c.tc : Thread nD τ).loc main_arg0)
abbrev aM : Vec Ideal S2x18432 .f32 := m ((c.tc : Thread nD τ).loc main_arg1)
abbrev aA : Vec Ideal S2x8x16384x128 .bf16 := m ((c.tc : Thread nD τ).loc main_arg2)
abbrev aF : Vec Ideal S2x16384x1024 .bf16 := m ((c.tc : Thread nD τ).loc main_arg3)
abbrev aB : Vec Ideal S2x16384x1024 .bf16 := m ((c.tc : Thread nD τ).loc main_arg4)
abbrev aZ : Vec Ideal S2x16384x1024 .bf16 := m ((c.tc : Thread nD τ).loc main_arg5)
abbrev aNA : Vec Ideal S1024 .f32 := m ((c.tc : Thread nD τ).loc main_arg6)
abbrev aND : Vec Ideal S128 .f32 := m ((c.tc : Thread nD τ).loc main_arg7)
abbrev aW : Vec Ideal S2048x2048 .f32 := m ((c.tc : Thread nD τ).loc main_arg8)

theorem V0 : (V m c main_v0 : Vec Ideal S2x9x2048 .f32) = shapeCast S2x9x2048 (aM m c) shapeCasts_S2x18432_S2x9x2048 := by
  dsimp only [V, hostOps0]; after_results_simp; rfl
theorem V1 : (V m c main_v1 : Vec Ideal S2048x2048 .bf16) = aW m c := by
  dsimp only [V, hostOps0]; after_results_simp; rfl
theorem V2 : (V m c main_v2 : Vec Ideal S1x1024 .f32) = shapeCast S1x1024 (aNA m c) shapeCasts_S1024_S1x1024 := by
  dsimp only [V, hostOps0]; after_results_simp; rfl
theorem V3 : (V m c main_v3 : Vec Ideal S1x128 .f32) = shapeCast S1x128 (aND m c) shapeCasts_S128_S1x128 := by
  dsimp only [V, hostOps0]; after_results_simp; rfl

theorem e0 : ∀ t : Fin cfg0.N, win0_0.index t = ![t.val / 32, t.val % 32, 0] := (by decide +kernel : ∀ t : Fin grid0.N, _)
theorem e1 : ∀ t : Fin cfg0.N, win0_1.index t = ![t.val / 32, 0, 0] := (by decide +kernel : ∀ t : Fin grid0.N, _)
theorem e2 : ∀ t : Fin cfg0.N, win0_2.index t = ![t.val / 32, 0, t.val % 32, 0] := (by decide +kernel : ∀ t : Fin grid0.N, _)
theorem e3 : ∀ t : Fin cfg0.N, win0_3.index t = ![t.val / 32, t.val % 32, 0] := (by decide +kernel : ∀ t : Fin grid0.N, _)
theorem e4 : ∀ t : Fin cfg0.N, win0_4.index t = ![t.val / 32, t.val % 32, 0] := (by decide +kernel : ∀ t : Fin grid0.N, _)
theorem e5 : ∀ t : Fin cfg0.N, win0_5.index t = ![t.val / 32, t.val % 32, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![t.val / 32, t.val % 32, 0] := (by decide +kernel : ∀ t : Fin grid0.N, _)

theorem lt64 (t : Fin cfg0.N) : t.val < 64 := t.isLt

/-- The batch row and the sequence row of point `t`'s block row `r`. -/
def bOf (t : Fin cfg0.N) : Fin 2 := ⟨t.val / 32, by have := lt64 t; omega⟩
def sOf (t : Fin cfg0.N) (r : Fin 512) : Fin 16384 := ⟨512 * (t.val % 32) + r.val, by omega⟩

theorem iblk0 (t : Fin cfg0.N) (r : Fin 512) (k : Fin 2048) :
    (iblk m c 0 t : Vec Ideal S1x512x2048 .f32) (ix3 0 r k) = aX m c (ix3 (bOf t) (sOf t r) k) := by
  blk_simp [iblk]
  rw [V_main_arg0]
  blk_ext [e0, bOf, sOf]

theorem iblk1 (t : Fin cfg0.N) (j : Fin 9) (k : Fin 2048) :
    (iblk m c 1 t : Vec Ideal S1x9x2048 .f32) (ix3 0 j k) = aM m c (ix2 (bOf t) ⟨2048 * j.val + k.val, by omega⟩) := by
  blk_simp [iblk]
  have h := congrFun (V0 m c) (ix3 (bOf t) j k)
  have e : ((win0_1.blk t).view.emb (ix3 0 j k) : S2x9x2048.Idx) = ix3 (bOf t) j k := by blk_ext [e1, bOf]
  rw [e]
  refine h.trans ?_
  refine (shapeCast_apply _ _ _ (ix2 (bOf t) ⟨2048 * j.val + k.val, by omega⟩) ?_).trans rfl
  simp only [Shape.rowMajor_val_two, Shape.rowMajor_val_three]
  show (bOf t).val * 18432 + (2048 * j.val + k.val) = ((bOf t).val * 9 + j.val) * 2048 + k.val
  omega

theorem iblk2 (t : Fin cfg0.N) (h : Fin 8) (r : Fin 512) (v : Fin 128) :
    (iblk m c 2 t : Vec Ideal S1x8x512x128 .bf16) (ix4 0 h r v) = aA m c (ix4 (bOf t) h (sOf t r) v) := by
  blk_simp [iblk]
  rw [V_main_arg2]
  blk_ext [e2, bOf, sOf]

theorem iblk3 (t : Fin cfg0.N) (r : Fin 512) (k : Fin 1024) :
    (iblk m c 3 t : Vec Ideal S1x512x1024 .bf16) (ix3 0 r k) = aF m c (ix3 (bOf t) (sOf t r) k) := by
  blk_simp [iblk]
  rw [V_main_arg3]
  blk_ext [e3, bOf, sOf]

theorem iblk4 (t : Fin cfg0.N) (r : Fin 512) (k : Fin 1024) :
    (iblk m c 4 t : Vec Ideal S1x512x1024 .bf16) (ix3 0 r k) = aB m c (ix3 (bOf t) (sOf t r) k) := by
  blk_simp [iblk]
  rw [V_main_arg4]
  blk_ext [e4, bOf, sOf]

theorem iblk5 (t : Fin cfg0.N) (r : Fin 512) (k : Fin 1024) :
    (iblk m c 5 t : Vec Ideal S1x512x1024 .bf16) (ix3 0 r k) = aZ m c (ix3 (bOf t) (sOf t r) k) := by
  blk_simp [iblk]
  rw [V_main_arg5]
  blk_ext [e5, bOf, sOf]

theorem iblk6 (t : Fin cfg0.N) (k : Fin 1024) :
    (iblk m c 6 t : Vec Ideal S1x1024 .f32) (ix2 0 k) = aNA m c (ix1 k) := by
  blk_simp [iblk]
  have e : ((win0_6.blk t).view.emb (ix2 0 k) : S1x1024.Idx) = ix2 0 k := by blk_ext [e6]
  rw [e]
  refine (congrFun (V2 m c) (ix2 0 k)).trans ?_
  pointwise

theorem iblk7 (t : Fin cfg0.N) (k : Fin 128) :
    (iblk m c 7 t : Vec Ideal S1x128 .f32) (ix2 0 k) = aND m c (ix1 k) := by
  blk_simp [iblk]
  have e : ((win0_7.blk t).view.emb (ix2 0 k) : S1x128.Idx) = ix2 0 k := by blk_ext [e7]
  rw [e]
  refine (congrFun (V3 m c) (ix2 0 k)).trans ?_
  pointwise

theorem iblk8 (t : Fin cfg0.N) (k d : Fin 2048) :
    (iblk m c 8 t : Vec Ideal S2048x2048 .bf16) (ix2 k d) = aW m c (ix2 k d) := by
  blk_simp [iblk]
  refine (congrFun (V1 m c) _).trans ?_
  blk_ext [e8]

/-- One row of the result. -/
def orow (b : Fin 2) (s : Fin 16384) (d : Fin 2048) : EReal :=
  aX m c (ix3 b s d) + aM m c (ix2 b ⟨10240 + d.val, by omega⟩)
    * proj (fun k => aA m c (ix4 b ⟨k.val / 128, by omega⟩ s ⟨k.val % 128, by omega⟩)) (fun k => aNA m c (ix1 k))
        (fun k => aF m c (ix3 b s k) + aB m c (ix3 b s k)) (fun k => aZ m c (ix3 b s k)) (fun v => aND m c (ix1 v)) (fun k => aW m c (ix2 k d))

/-- The kernel's result at an index. -/
theorem arr_apply (b : Fin 2) (s : Fin 16384) (d : Fin 2048) :
    ((dats m 0 c).arrAt 9 cfg0.N : Vec Ideal S2x16384x2048 .f32) (ix3 b s d) = orow m c b s d := by
  have hlt : 32 * b.val + s.val / 512 < cfg0.N := by
    show _ < 64
    omega
  have hr : s.val % 512 < 512 := Nat.mod_lt _ (by decide)
  have hb : bOf ⟨32 * b.val + s.val / 512, hlt⟩ = b := by
    apply Fin.ext; show (32 * b.val + s.val / 512) / 32 = b.val; omega
  have hs : sOf ⟨32 * b.val + s.val / 512, hlt⟩ ⟨s.val % 512, hr⟩ = s := by
    apply Fin.ext; show 512 * ((32 * b.val + s.val / 512) % 32) + s.val % 512 = s.val; omega
  have hf : ∀ t : Fin cfg0.N, (cfg0.win 9).flush t = true := (by decide +kernel : ∀ t : Fin grid0.N, win0_9.flush t = true)
  have key := congrFun (Value.blocks9 m c ⟨32 * b.val + s.val / 512, hlt⟩ (hf _)) (ix3 0 ⟨s.val % 512, hr⟩ d)
  rw [Value.flushed9] at key
  have e : ((win0_9.blk ⟨32 * b.val + s.val / 512, hlt⟩).view.emb (ix3 0 ⟨s.val % 512, hr⟩ d) : S2x16384x2048.Idx) = ix3 b s d := by
    blk_ext [e9]
  have left : ((dats m 0 c).arrAt 9 cfg0.N : Vec Ideal S2x16384x2048 .f32) (ix3 b s d)
      = ((cfg0.win 9).blk ⟨32 * b.val + s.val / 512, hlt⟩).view.read (Elt Ideal) ((dats m 0 c).arrAt 9 cfg0.N) (ix3 0 ⟨s.val % 512, hr⟩ d) := by
    rw [← e]; rfl
  rw [left]
  refine key.trans ?_
  refine (show _ = out0_9 (iblk m c 0 ⟨32 * b.val + s.val / 512, hlt⟩) (iblk m c 1 ⟨32 * b.val + s.val / 512, hlt⟩)
    (iblk m c 2 ⟨32 * b.val + s.val / 512, hlt⟩) (iblk m c 3 ⟨32 * b.val + s.val / 512, hlt⟩) (iblk m c 4 ⟨32 * b.val + s.val / 512, hlt⟩)
    (iblk m c 5 ⟨32 * b.val + s.val / 512, hlt⟩) (iblk m c 6 ⟨32 * b.val + s.val / 512, hlt⟩) (iblk m c 7 ⟨32 * b.val + s.val / 512, hlt⟩)
    (iblk m c 8 ⟨32 * b.val + s.val / 512, hlt⟩) (ix3 0 ⟨s.val % 512, hr⟩ d) from rfl).trans ?_
  refine (out_apply _ _ _ _ _ _ _ _ _ _ d).trans ?_
  unfold orow
  simp only [iblk0, iblk2, iblk3, iblk4, iblk5, iblk6, iblk7, iblk8, iblk1, hb, hs]
  rfl

end Cert.Kernel4Ideal.Out
-- ==== Proof.OutRef.lean ====
module

public import proofs.«01_k».proof.Proof.OutMath
public import proofs.«01_k».proof.Proof.Gen.Reference4Ideal.Run

/-! The reference of the output projection, read at an index. -/

@[expose] public section

set_option maxRecDepth 16384

noncomputable section

namespace Cert.Reference4Ideal.Out

open Cert.Reference4Ideal Cert.Reference4Ideal.Gen Idealize.ShloMosaic Idealize.ShloMosaic.TcCoe Cert.Out
open scoped BigOperators

/-- The attention's heads side by side. -/
def flat (oa : FVec Ideal S2x8x16384x128 .bf16) : FVec Ideal S2x16384x1024 .f32 :=
  shapeCast S2x16384x1024 (transpose S2x16384x8x128 [0, 2, 1, 3] (extf .f32 oa bitsLt_bf16_f32) transposes_S2x8x16384x128_S2x16384x8x128_0_2_1_3) shapeCasts_S2x16384x8x128_S2x16384x1024

/-- The attention's half of the row. -/
def upper (y : FVec Ideal S2x16384x1024 .f32) (na : FVec Ideal S1024 .f32) : FVec Ideal S2x16384x1024 .f32 :=
  mulf (mulf y (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf y y) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 na))

/-- A row's heads. -/
def heads (o : FVec Ideal S2x16384x1024 .f32) : FVec Ideal S2x16384x8x128 .f32 :=
  shapeCast S2x16384x8x128 o shapeCasts_S2x16384x1024_S2x16384x8x128

/-- The recurrence's half of the row, head by head. -/
def lower (y z : FVec Ideal S2x16384x8x128 .f32) (nd : FVec Ideal S128 .f32) : FVec Ideal S2x16384x8x128 .f32 :=
  mulf (mulf (mulf y (broadcastInDim S2x16384x8x128 ![0, 1, 2, 3] bcast_S2x16384x8x1_S2x16384x8x128_0_1_2_3 (Host.rsqrt (addf (Host.divf (broadcastInDim S2x16384x8x1 ![0, 1, 2] bcast_S2x16384x8_S2x16384x8x1_0_1_2 (Host.reduceAdd (mulf y y) (constant S_ .f32 0x00000000#32) reducesTo_S2x16384x8x128_S2x16384x8_d3 h_S_)) (broadcastInDim S2x16384x8x1 ![] bcast_S_S2x16384x8x1 (constant S_ .f32 0x43000000#32))) (broadcastInDim S2x16384x8x1 ![] bcast_S_S2x16384x8x1 (constant S_ .f32 0x358637BD#32)))))) (broadcastInDim S2x16384x8x128 ![0, 1, 2, 3] bcast_S1x1x1x128_S2x16384x8x128_0_1_2_3 (broadcastInDim S1x1x1x128 ![3] bcast_S128_S1x1x1x128_3 nd))) (mulf z (Host.divf (broadcastInDim S2x16384x8x128 ![] bcast_S_S2x16384x8x128 (constant S_ .f32 0x3F800000#32)) (addf (broadcastInDim S2x16384x8x128 ![] bcast_S_S2x16384x8x128 (constant S_ .f32 0x3F800000#32)) (Host.exp (Host.negf z)))))

/-- The projection of two halves, added to the stream. -/
def whole (x : FVec Ideal S2x16384x2048 .f32) (mod : FVec Ideal S2x18432 .f32) (a d : FVec Ideal S2x16384x1024 .f32) (w : FVec Ideal S2048x2048 .f32) : FVec Ideal S2x16384x2048 .f32 :=
  addf x (mulf (broadcastInDim S2x16384x2048 ![0, 1, 2] bcast_S2x1x2048_S2x16384x2048_0_1_2 (broadcastInDim S2x1x2048 ![0, 2] bcast_S2x2048_S2x1x2048_0_2 (extractStridedSlice S2x2048 ![0, 10240] mod slices_S2x18432_S2x2048_0_10240))) (Host.dotGeneral dot_S2x16384x2048_S2048x2048_S2x16384x2048_2_0_01_1_n_n none (concatenate S2x16384x2048 2 [⟨S2x16384x1024, a⟩, ⟨S2x16384x1024, d⟩] concatenates_S2x16384x1024_S2x16384x1024_S2x16384x2048_d2) w))

theorem flat_apply (oa : FVec Ideal S2x8x16384x128 .bf16) (b : Fin 2) (s : Fin 16384) (k : Fin 1024) :
    flat oa (ix3 b s k) = oa (ix4 b ⟨k.val / 128, by omega⟩ s ⟨k.val % 128, by omega⟩) := by
  unfold flat
  pointwise

theorem upper_apply (y : FVec Ideal S2x16384x1024 .f32) (na : FVec Ideal S1024 .f32) (b : Fin 2) (s : Fin 16384) (k : Fin 1024) :
    upper y na (ix3 b s k) = attn (fun k => y (ix3 b s k)) (fun k => na (ix1 k)) k := by
  unfold upper attn
  pointwise

theorem heads_apply (o : FVec Ideal S2x16384x1024 .f32) (b : Fin 2) (s : Fin 16384) (h : Fin 8) (v : Fin 128) :
    heads o (ix4 b s h v) = o (ix3 b s (at8 h v)) := by
  unfold heads
  pointwise
  blk_ext

theorem lower_apply (y z : FVec Ideal S2x16384x8x128 .f32) (nd : FVec Ideal S128 .f32) (b : Fin 2) (s : Fin 16384) (h : Fin 8) (v : Fin 128) :
    lower y z nd (ix4 b s h v) = head (fun v => y (ix4 b s h v)) (fun v => z (ix4 b s h v)) (fun v => nd (ix1 v)) v := by
  unfold lower head Ideal.logistic
  pointwise

theorem whole_apply (x : FVec Ideal S2x16384x2048 .f32) (mod : FVec Ideal S2x18432 .f32) (a d : FVec Ideal S2x16384x1024 .f32) (w : FVec Ideal S2048x2048 .f32)
    (b : Fin 2) (s : Fin 16384) (j : Fin 2048) :
    whole x mod a d w (ix3 b s j) = x (ix3 b s j) + mod (ix2 b ⟨10240 + j.val, by omega⟩)
      * ((∑ k : Fin 1024, a (ix3 b s k) * w (ix2 ⟨k.val, by omega⟩ j)) + ∑ h : Fin 8, ∑ v : Fin 128, d (ix3 b s (at8 h v)) * w (ix2 (lo8 h v) j)) := by
  unfold whole
  pointwise
  refine congrArg₂ (· + ·) rfl (congrArg₂ (· * ·) rfl (congrArg₂ (· + ·) rfl ?_))
  refine (Fin.sum_mul_add_congr (S := 8) (n := 128) (f := fun k : Fin 1024 => d (ix3 b s k) * w (ix2 ⟨1024 + k.val, by omega⟩ j)) fun h v hl => ?_).symm
  refine congrArg₂ (· * ·) ?_ ?_
  · blk_ext
  · blk_ext

/-- The reference's result, of its arguments. -/
def res (x : FVec Ideal S2x16384x2048 .f32) (mod : FVec Ideal S2x18432 .f32) (oa : FVec Ideal S2x8x16384x128 .bf16) (f b z : FVec Ideal S2x16384x1024 .bf16)
    (na : FVec Ideal S1024 .f32) (nd : FVec Ideal S128 .f32) (w : FVec Ideal S2048x2048 .f32) : FVec Ideal S2x16384x2048 .f32 :=
  whole x mod (upper (flat oa) na) (shapeCast S2x16384x1024 (lower (heads (addf (extf .f32 f bitsLt_bf16_f32) (extf .f32 b bitsLt_bf16_f32))) (heads (extf .f32 z bitsLt_bf16_f32)) nd) shapeCasts_S2x16384x8x128_S2x16384x1024) w

/-- The same, entry by entry. -/
theorem res_apply (x : FVec Ideal S2x16384x2048 .f32) (mod : FVec Ideal S2x18432 .f32) (oa : FVec Ideal S2x8x16384x128 .bf16) (f g z : FVec Ideal S2x16384x1024 .bf16)
    (na : FVec Ideal S1024 .f32) (nd : FVec Ideal S128 .f32) (w : FVec Ideal S2048x2048 .f32) (b : Fin 2) (s : Fin 16384) (j : Fin 2048) :
    res x mod oa f g z na nd w (ix3 b s j) = x (ix3 b s j) + mod (ix2 b ⟨10240 + j.val, by omega⟩)
      * proj (fun k => oa (ix4 b ⟨k.val / 128, by omega⟩ s ⟨k.val % 128, by omega⟩)) (fun k => na (ix1 k))
        (fun k => f (ix3 b s k) + g (ix3 b s k)) (fun k => z (ix3 b s k)) (fun v => nd (ix1 v)) (fun k => w (ix2 k j)) := by
  have back : ∀ (y : FVec Ideal S2x16384x8x128 .f32) (h : Fin 8) (v : Fin 128),
      (shapeCast S2x16384x1024 y shapeCasts_S2x16384x8x128_S2x16384x1024 : FVec Ideal S2x16384x1024 .f32) (ix3 b s (at8 h v)) = y (ix4 b s h v) := fun y h v => by
    refine (shapeCast_apply _ _ _ (ix4 b s h v) ?_).trans rfl
    simp only [Shape.rowMajor_val_three, Shape.rowMajor_val_four]
    show ((b.val * 16384 + s.val) * 8 + h.val) * 128 + v.val = (b.val * 16384 + s.val) * 1024 + (128 * h.val + v.val)
    omega
  unfold res proj
  rw [whole_apply]
  simp only [upper_apply, flat_apply, back, lower_apply, heads_apply]
  rfl

end Cert.Reference4Ideal.Out
-- ==== Proof.OutClaim.lean ====
module

public import proofs.«01_k».proof.Defs
public import proofs.«01_k».proof.Proof.OutPoints
public import proofs.«01_k».proof.Proof.OutRef
public import Idealize.ShloMosaic.Lib.Quiescent
public import proofs.«01_k».proof.Proof.Gen.Kernel4.Frame

/-! The output projection: kernel and reference side by side. -/

@[expose] public section

set_option maxRecDepth 16384

noncomputable section

namespace Cert.Proof

open Idealize.ShloMosaic Idealize.SL.Sem

/-- One value of both programs' results, entry by entry. -/
theorem out_eq (m : (ℓ : Loc Cert.Kernel4Ideal.nD Cert.Kernel4Ideal.τ Cert.Kernel4Ideal.sig) → Buf (Elt Ideal) ℓ) (c : Dev Cert.Kernel4Ideal.nD) :
    Cert.Reference4Ideal.Out.res (Cert.Kernel4Ideal.Out.aX m c) (Cert.Kernel4Ideal.Out.aM m c) (Cert.Kernel4Ideal.Out.aA m c) (Cert.Kernel4Ideal.Out.aF m c) (Cert.Kernel4Ideal.Out.aB m c) (Cert.Kernel4Ideal.Out.aZ m c) (Cert.Kernel4Ideal.Out.aNA m c) (Cert.Kernel4Ideal.Out.aND m c) (Cert.Kernel4Ideal.Out.aW m c) = (Cert.Kernel4Ideal.Gen.dats m 0 c).arrAt 9 Cert.Kernel4Ideal.cfg0.N := by
  funext i
  obtain ⟨b, s, d, rfl⟩ : ∃ (b : Fin 2) (s : Fin 16384) (d : Fin 2048), i = ix3 b s d := ⟨i 0, i 1, i 2, by blk_ext⟩
  exact (Cert.Reference4Ideal.Out.res_apply _ _ _ _ _ _ _ _ _ b s d).trans (Cert.Kernel4Ideal.Out.arr_apply m c b s d).symm

theorem out_frame [h : Cert.Kernel4.Facts] : quiescent_Kernel4 (hKernel4 := h) := fun m ρ _ => Cert.Kernel4.Gen.frame m ρ
theorem out_frame_ideal [h : Cert.Kernel4Ideal.Facts] : quiescent_Kernel4Ideal (hKernel4Ideal := h) := fun m ρ _ => Cert.Kernel4Ideal.Gen.frame m ρ
theorem out_frame_ref [h : Cert.Reference4Ideal.Facts] : quiescent_Reference4Ideal (hReference4Ideal := h) := fun m ρ _ =>
  (θ_run Cert.Reference4Ideal.defs _ _).mono (fun r hr => ⟨fun c => (hr c).2, sem_eq_zero_of_no_sems rfl r.2⟩) (Cert.Reference4Ideal.Value.run m ρ)

theorem out_algebraic [Cert.Kernel4Ideal.Facts] [Cert.Reference4Ideal.Facts] : algebraic_Kernel4Ideal_Reference4Ideal := by
  intro m g m' g' _ hm
  refine ⟨fun c => (Cert.Kernel4Ideal.Gen.dats m 0 c).arrAt 9 Cert.Kernel4Ideal.cfg0.N, Cert.Kernel4Ideal.Value.run_blocks m g, ?_⟩
  refine (θ_run Cert.Reference4Ideal.defs _ _).mono (fun r h c => ?_) (Cert.Reference4Ideal.Value.run m' g')
  obtain ⟨h0, h1, h2, h3, h4, h5, h6, h7, h8⟩ := hm c
  have hr := (h c).1
  rw [h0, h1, h2, h3, h4, h5, h6, h7, h8] at hr
  exact ⟨hr.trans (out_eq m c), (h c).2⟩

end Cert.Proof
-- ==== Proof.InDefs.lean ====
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Tactic
public import Idealize.ShloMosaic.Lib.WritesUnit
public import Idealize.ShloMosaic.Lib.Pipeline.ValueKit

/-! The input projections' body: what one grid point leaves in every buffer. The body normalises its rows into the scratch
at the first of seven points and stores one of seven results at each of them. -/

@[expose] public section

set_option maxRecDepth 16384

noncomputable section

namespace Cert.Kernel5Ideal.InProj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The buffers the body is called on, each whole. -/
structure Bufs where
  x : Memref sig .tc .vmem S1x512x2048 .f32
  hx : x.IsWhole
  md : Memref sig .tc .vmem S1x9x2048 .f32
  hmd : md.IsWhole
  nw : Memref sig .tc .vmem S1x2048 .f32
  hnw : nw.IsWhole
  w : Memref sig .tc .vmem S2048x1024 .bf16
  hw : w.IsWhole
  wg : Memref sig .tc .vmem S2048x128 .bf16
  hwg : wg.IsWhole
  q : Memref sig .tc .vmem S1x8x512x128 .bf16
  hq : q.IsWhole
  k : Memref sig .tc .vmem S1x8x512x128 .bf16
  hk : k.IsWhole
  v : Memref sig .tc .vmem S1x8x512x128 .bf16
  hv : v.IsWhole
  dq : Memref sig .tc .vmem S1x512x1024 .bf16
  hdq : dq.IsWhole
  dk : Memref sig .tc .vmem S1x512x1024 .bf16
  hdk : dk.IsWhole
  dv : Memref sig .tc .vmem S1x512x1024 .bf16
  hdv : dv.IsWhole
  z : Memref sig .tc .vmem S1x512x1024 .bf16
  hz : z.IsWhole
  g : Memref sig .tc .vmem S1x512x128 .f32
  hg : g.IsWhole
  s : Memref sig .tc .vmem S512x2048 .bf16
  hs : s.IsWhole

/-- What the buffers hold. -/
structure Held (F : FTy → Type) where
  x : Vec F S1x512x2048 .f32
  md : Vec F S1x9x2048 .f32
  nw : Vec F S1x2048 .f32
  w : Vec F S2048x1024 .bf16
  wg : Vec F S2048x128 .bf16
  q : Vec F S1x8x512x128 .bf16
  k : Vec F S1x8x512x128 .bf16
  v : Vec F S1x8x512x128 .bf16
  dq : Vec F S1x512x1024 .bf16
  dk : Vec F S1x512x1024 .bf16
  dv : Vec F S1x512x1024 .bf16
  z : Vec F S1x512x1024 .bf16
  g : Vec F S1x512x128 .f32
  s : Vec F S512x2048 .bf16

/-- The body at a grid point, on the buffers. -/
abbrev body (i : grid0.Coords) (b : Bufs) : Prog (TpuEff nD τ sig (Elt F) Λ₀ .tc) PUnit :=
  cc0_inproj i b.x b.hx b.md b.hmd b.nw b.hnw b.w b.hw b.wg b.hwg b.q b.hq b.k b.hk b.v b.hv b.dq b.hdq b.dk b.hdk b.dv b.hdv b.z b.hz b.g b.hg b.s b.hs

/-- The buffers at their contents. -/
def held (c : Dev nD) (b : Bufs) (v : Held F) : sProp 𝕄 :=
  iprop(owns (c : Thread nD τ) b.x fullShare v.x ∗ owns (c : Thread nD τ) b.md fullShare v.md ∗ owns (c : Thread nD τ) b.nw fullShare v.nw ∗ owns (c : Thread nD τ) b.w fullShare v.w ∗ owns (c : Thread nD τ) b.wg fullShare v.wg ∗ owns (c : Thread nD τ) b.q fullShare v.q ∗ owns (c : Thread nD τ) b.k fullShare v.k ∗ owns (c : Thread nD τ) b.v fullShare v.v ∗ owns (c : Thread nD τ) b.dq fullShare v.dq ∗ owns (c : Thread nD τ) b.dk fullShare v.dk ∗ owns (c : Thread nD τ) b.dv fullShare v.dv ∗ owns (c : Thread nD τ) b.z fullShare v.z ∗ owns (c : Thread nD τ) b.g fullShare v.g ∗ owns (c : Thread nD τ) b.s fullShare v.s)

/-- The body's eight conditions at the `j`-th of a row block's seven points. -/
structure AtPoint (i : grid0.Coords) (j : ℕ) : Prop where
  c1 : k0_cond1 i = 1#1 ↔ j = 0
  c2 : k0_cond2 i = 1#1 ↔ j = 0
  c3 : k0_cond3 i = 1#1 ↔ j = 1
  c4 : k0_cond4 i = 1#1 ↔ j = 2
  c5 : k0_cond5 i = 1#1 ↔ j = 3
  c6 : k0_cond6 i = 1#1 ↔ j = 4
  c7 : k0_cond7 i = 1#1 ↔ j = 5
  c8 : k0_cond8 i = 1#1 ↔ j = 6

/-- Eight heads side by side. -/
def headsOf (y : Fin 8 → Vec F S1x1x512x128 .bf16) : Vec F S1x8x512x128 .bf16 := fun i =>
  y (i 1) (fun a => match a with | ⟨0, _⟩ => ⟨0, Nat.one_pos⟩ | ⟨1, _⟩ => ⟨0, Nat.one_pos⟩ | ⟨2, _⟩ => i 2 | ⟨3, _⟩ => i 3)

/-- The rows, normalised and modulated. -/
def rows (x : Vec F S1x512x2048 .f32) (md : Vec F S1x9x2048 .f32) (nw : Vec F S1x2048 .f32) : Vec F S512x2048 .bf16 :=
  k0_pay1 (View.ld md (Rect.unit (s := S1x9x2048) ![0, 3, 0] S1x1x2048.size inb_S1x9x2048_S1x1x2048_0_3_0))
    (View.ld md (Rect.unit (s := S1x9x2048) ![0, 4, 0] S1x1x2048.size inb_S1x9x2048_S1x1x2048_0_4_0)) x nw

def queries (s : Vec F S512x2048 .bf16) (w : Vec F S2048x1024 .bf16) : Vec F S1x8x512x128 .bf16 :=
  headsOf ![k0_pay3 (k0_pay19 s w), k0_pay4 (k0_pay19 s w), k0_pay5 (k0_pay19 s w), k0_pay6 (k0_pay19 s w), k0_pay20 (k0_pay7 (k0_pay19 s w)),
    k0_pay21 s w, k0_pay22 s w, k0_pay23 s w]

def keys (s : Vec F S512x2048 .bf16) (w : Vec F S2048x1024 .bf16) : Vec F S1x8x512x128 .bf16 :=
  headsOf ![k0_pay8 (k0_pay19 s w), k0_pay9 (k0_pay19 s w), k0_pay10 (k0_pay19 s w), k0_pay11 (k0_pay19 s w), k0_pay24 (k0_pay12 (k0_pay19 s w)),
    k0_pay25 s w, k0_pay26 s w, k0_pay27 s w]

def vals (s : Vec F S512x2048 .bf16) (w : Vec F S2048x1024 .bf16) : Vec F S1x8x512x128 .bf16 :=
  headsOf ![k0_pay13 (k0_pay19 s w), k0_pay14 (k0_pay19 s w), k0_pay15 (k0_pay19 s w), k0_pay16 (k0_pay19 s w), k0_pay28 (k0_pay17 (k0_pay19 s w)),
    k0_pay29 s w, k0_pay30 s w, k0_pay31 s w]

/-- The step gates. -/
def gates (s : Vec F S512x2048 .bf16) (wg : Vec F S2048x128 .bf16) : Vec F S1x512x128 .f32 := k0_pay18 (k0_pay2 s wg)

theorem zero2 : ∀ a : Fin 2, (![0, 0] : Fin 2 → ℕ) a = 0 := by decide
theorem zero3 : ∀ a : Fin 3, (![0, 0, 0] : Fin 3 → ℕ) a = 0 := by decide
theorem ld_whole {s : Shape} {e : EltTy} (X : Vec F s e) (off : Fin s.rank → ℕ) (h : ∀ a, off a = 0) (inb) :
    View.ld X (Rect.unit off s.size inb) = X :=
  funext fun i => View.ld_unit_apply_of X off s.size inb i i fun a => by rw [h a, Nat.zero_add]

/-- A load of a part of a buffer reads that part of its contents. -/
theorem readAt_part {s : Shape} {e : EltTy} {m : Memref sig .tc .vmem s e} (hm : m.IsWhole) (x : Vec F s e) (r : Rect s) :
    m.view.readAt (Elt F) r.toLoadRect (hm.unread x) = View.ld x r :=
  (View.readAt_eq_ld m.view (hm.unread x) r).trans (by rw [hm.read_unread])

/-- A load of a whole buffer reads its contents. -/
theorem readAt_whole {s : Shape} {e : EltTy} {m : Memref sig .tc .vmem s e} (hm : m.IsWhole) (x : Vec F s e) (off : Fin s.rank → ℕ)
    (h : ∀ a, off a = 0) (inb) : m.view.readAt (Elt F) (Rect.unit off s.size inb).toLoadRect (hm.unread x) = x := by
  refine (View.readAt_eq_ld m.view (hm.unread x) (Rect.unit off s.size inb)).trans ?_
  rw [hm.read_unread]
  exact ld_whole x off h inb

/-- A store of a whole buffer leaves the value stored. -/
theorem read_writes_whole {s : Shape} {e : EltTy} (v : View sig .tc .vmem s e) (f : v.ty.Contents (Elt F)) (off : Fin s.rank → ℕ)
    (h : ∀ a, off a = 0) (inb) (w : (Rect.unit off s.size inb).shape.Idx → Elt F e) :
    v.read (Elt F) (v.writes (Elt F) f [⟨Rect.unit off s.size inb, w⟩]) = w :=
  funext fun y => View.read_writes_cons_unit_of_mem v f inb w [] y y rfl fun a => by rw [h a, Nat.zero_add]

/-- Eight stores of one head each leave the heads side by side. -/
theorem read_writes_heads (v : View sig .tc .vmem S1x8x512x128 .bf16) (f : v.ty.Contents (Elt F)) (p0 p1 p2 p3 p4 p5 p6 p7 : Vec F S1x1x512x128 .bf16) :
    v.read (Elt F) (v.writes (Elt F) f
      [⟨Rect.unit (s := S1x8x512x128) ![0, 7, 0, 0] S1x1x512x128.size inb_S1x8x512x128_S1x1x512x128_0_7_0_0, p7⟩,
       ⟨Rect.unit (s := S1x8x512x128) ![0, 6, 0, 0] S1x1x512x128.size inb_S1x8x512x128_S1x1x512x128_0_6_0_0, p6⟩,
       ⟨Rect.unit (s := S1x8x512x128) ![0, 5, 0, 0] S1x1x512x128.size inb_S1x8x512x128_S1x1x512x128_0_5_0_0, p5⟩,
       ⟨Rect.unit (s := S1x8x512x128) ![0, 4, 0, 0] S1x1x512x128.size inb_S1x8x512x128_S1x1x512x128_0_4_0_0, p4⟩,
       ⟨Rect.unit (s := S1x8x512x128) ![0, 3, 0, 0] S1x1x512x128.size inb_S1x8x512x128_S1x1x512x128_0_3_0_0, p3⟩,
       ⟨Rect.unit (s := S1x8x512x128) ![0, 2, 0, 0] S1x1x512x128.size inb_S1x8x512x128_S1x1x512x128_0_2_0_0, p2⟩,
       ⟨Rect.unit (s := S1x8x512x128) ![0, 1, 0, 0] S1x1x512x128.size inb_S1x8x512x128_S1x1x512x128_0_1_0_0, p1⟩,
       ⟨Rect.unit (s := S1x8x512x128) ![0, 0, 0, 0] S1x1x512x128.size inb_S1x8x512x128_S1x1x512x128_0_0_0_0, p0⟩]) = headsOf ![p0, p1, p2, p3, p4, p5, p6, p7] := by
  funext y
  have h0 : (y 0).val = 0 := by have : (y 0).val < 1 := (y 0).isLt; omega
  have hit : ∀ (k : ℕ) (hk : k < 8) (_ : (y 1).val = k) (a : Fin 4), (y a).val = (![0, k, 0, 0] : Fin 4 → ℕ) a
      + ((fun a => match a with | ⟨0, _⟩ => ⟨0, Nat.one_pos⟩ | ⟨1, _⟩ => ⟨0, Nat.one_pos⟩ | ⟨2, _⟩ => y 2 | ⟨3, _⟩ => y 3 : S1x1x512x128.Idx) a).val := by
    intro k hk e a
    fin_cases a
    · exact h0
    · exact e
    · exact (Nat.zero_add _).symm
    · exact (Nat.zero_add _).symm
  have hp : ∀ (k : Fin 8), (y 1).val = k.val → headsOf ![p0, p1, p2, p3, p4, p5, p6, p7] y = (![p0, p1, p2, p3, p4, p5, p6, p7] : Fin 8 → Vec F S1x1x512x128 .bf16) k (fun a => match a with | ⟨0, _⟩ => ⟨0, Nat.one_pos⟩ | ⟨1, _⟩ => ⟨0, Nat.one_pos⟩ | ⟨2, _⟩ => y 2 | ⟨3, _⟩ => y 3) :=
    fun k e => by
      have e' : y 1 = k := Fin.ext e
      simp only [headsOf, e']
  have hlt : (y 1).val < 8 := (y 1).isLt
  rcases (by omega : (y 1).val = 7 ∨ (y 1).val = 6 ∨ (y 1).val = 5 ∨ (y 1).val = 4 ∨ (y 1).val = 3 ∨ (y 1).val = 2 ∨ (y 1).val = 1 ∨ (y 1).val = 0) with e | e | e | e | e | e | e | e
  · exact (View.read_writes_cons_unit_of_mem v f _ _ _ y _ rfl (hit 7 (by decide) e)).trans (hp 7 e).symm
  · refine (View.read_writes_cons_unit_of_not_mem v f _ _ _ y rfl 1 (.inl (by rw [e]; decide))).trans ?_
    exact (View.read_writes_cons_unit_of_mem v f _ _ _ y _ rfl (hit 6 (by decide) e)).trans (hp 6 e).symm
  · refine (View.read_writes_cons_unit_of_not_mem v f _ _ _ y rfl 1 (.inl (by rw [e]; decide))).trans ?_
    refine (View.read_writes_cons_unit_of_not_mem v f _ _ _ y rfl 1 (.inl (by rw [e]; decide))).trans ?_
    exact (View.read_writes_cons_unit_of_mem v f _ _ _ y _ rfl (hit 5 (by decide) e)).trans (hp 5 e).symm
  · refine (View.read_writes_cons_unit_of_not_mem v f _ _ _ y rfl 1 (.inl (by rw [e]; decide))).trans ?_
    refine (View.read_writes_cons_unit_of_not_mem v f _ _ _ y rfl 1 (.inl (by rw [e]; decide))).trans ?_
    refine (View.read_writes_cons_unit_of_not_mem v f _ _ _ y rfl 1 (.inl (by rw [e]; decide))).trans ?_
    exact (View.read_writes_cons_unit_of_mem v f _ _ _ y _ rfl (hit 4 (by decide) e)).trans (hp 4 e).symm
  · refine (View.read_writes_cons_unit_of_not_mem v f _ _ _ y rfl 1 (.inl (by rw [e]; decide))).trans ?_
    refine (View.read_writes_cons_unit_of_not_mem v f _ _ _ y rfl 1 (.inl (by rw [e]; decide))).trans ?_
    refine (View.read_writes_cons_unit_of_not_mem v f _ _ _ y rfl 1 (.inl (by rw [e]; decide))).trans ?_
    refine (View.read_writes_cons_unit_of_not_mem v f _ _ _ y rfl 1 (.inl (by rw [e]; decide))).trans ?_
    exact (View.read_writes_cons_unit_of_mem v f _ _ _ y _ rfl (hit 3 (by decide) e)).trans (hp 3 e).symm
  · refine (View.read_writes_cons_unit_of_not_mem v f _ _ _ y rfl 1 (.inl (by rw [e]; decide))).trans ?_
    refine (View.read_writes_cons_unit_of_not_mem v f _ _ _ y rfl 1 (.inl (by rw [e]; decide))).trans ?_
    refine (View.read_writes_cons_unit_of_not_mem v f _ _ _ y rfl 1 (.inl (by rw [e]; decide))).trans ?_
    refine (View.read_writes_cons_unit_of_not_mem v f _ _ _ y rfl 1 (.inl (by rw [e]; decide))).trans ?_
    refine (View.read_writes_cons_unit_of_not_mem v f _ _ _ y rfl 1 (.inl (by rw [e]; decide))).trans ?_
    exact (View.read_writes_cons_unit_of_mem v f _ _ _ y _ rfl (hit 2 (by decide) e)).trans (hp 2 e).symm
  · refine (View.read_writes_cons_unit_of_not_mem v f _ _ _ y rfl 1 (.inl (by rw [e]; decide))).trans ?_
    refine (View.read_writes_cons_unit_of_not_mem v f _ _ _ y rfl 1 (.inl (by rw [e]; decide))).trans ?_
    refine (View.read_writes_cons_unit_of_not_mem v f _ _ _ y rfl 1 (.inl (by rw [e]; decide))).trans ?_
    refine (View.read_writes_cons_unit_of_not_mem v f _ _ _ y rfl 1 (.inl (by rw [e]; decide))).trans ?_
    refine (View.read_writes_cons_unit_of_not_mem v f _ _ _ y rfl 1 (.inl (by rw [e]; decide))).trans ?_
    refine (View.read_writes_cons_unit_of_not_mem v f _ _ _ y rfl 1 (.inl (by rw [e]; decide))).trans ?_
    exact (View.read_writes_cons_unit_of_mem v f _ _ _ y _ rfl (hit 1 (by decide) e)).trans (hp 1 e).symm
  · refine (View.read_writes_cons_unit_of_not_mem v f _ _ _ y rfl 1 (.inl (by rw [e]; decide))).trans ?_
    refine (View.read_writes_cons_unit_of_not_mem v f _ _ _ y rfl 1 (.inl (by rw [e]; decide))).trans ?_
    refine (View.read_writes_cons_unit_of_not_mem v f _ _ _ y rfl 1 (.inl (by rw [e]; decide))).trans ?_
    refine (View.read_writes_cons_unit_of_not_mem v f _ _ _ y rfl 1 (.inl (by rw [e]; decide))).trans ?_
    refine (View.read_writes_cons_unit_of_not_mem v f _ _ _ y rfl 1 (.inl (by rw [e]; decide))).trans ?_
    refine (View.read_writes_cons_unit_of_not_mem v f _ _ _ y rfl 1 (.inl (by rw [e]; decide))).trans ?_
    refine (View.read_writes_cons_unit_of_not_mem v f _ _ _ y rfl 1 (.inl (by rw [e]; decide))).trans ?_
    exact (View.read_writes_cons_unit_of_mem v f _ _ _ y _ rfl (hit 0 (by decide) e)).trans (hp 0 e).symm

end Cert.Kernel5Ideal.InProj
-- ==== Proof.InRun.lean ====
module

public import proofs.«01_k».proof.Proof.InDefs

/-! The input projections' body run at a grid point. -/

@[expose] public section

set_option maxRecDepth 16384

noncomputable section

namespace Cert.Kernel5Ideal.InProj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 800000 in
theorem run_0 (c : Dev nD) (i : grid0.Coords) (hj : AtPoint i 0) (b : Bufs) (v : Held F) (E : Set ℕ) (K : PUnit → sProp 𝕄) :
    iprop(held c b v ∗ (held c b { v with s := rows v.x v.md v.nw, g := gates (rows v.x v.md v.nw) v.wg, q := queries (rows v.x v.md v.nw) v.w } -∗ K ⟨⟩))
      ⊢ wp frame (wpE (defs₀ (F := F)) Variants.none c none) E (body i b) K := by
  have hc1 : k0_cond1 i = 1#1 := by simp [hj.c1]
  have hc2 : k0_cond2 i = 1#1 := by simp [hj.c2]
  have hc3 : ¬ k0_cond3 i = 1#1 := by simp [hj.c3]
  have hc4 : ¬ k0_cond4 i = 1#1 := by simp [hj.c4]
  have hc5 : ¬ k0_cond5 i = 1#1 := by simp [hj.c5]
  have hc6 : ¬ k0_cond6 i = 1#1 := by simp [hj.c6]
  have hc7 : ¬ k0_cond7 i = 1#1 := by simp [hj.c7]
  have hc8 : ¬ k0_cond8 i = 1#1 := by simp [hj.c8]
  dsimp only [body, held]
  simp only [cc0_inproj_eq_skeleton]; unfold cc0_inproj_skel
  simp only [k0_part1_eq_skeleton, k0_part2_eq_skeleton, k0_part3_eq_skeleton, k0_part4_eq_skeleton, k0_part5_eq_skeleton]
  unfold owns
  iintro ⟨⟨⟨%fx, %ex, Hx⟩, ⟨%fmd, %emd, Hmd⟩, ⟨%fnw, %enw, Hnw⟩, ⟨%fw, %ew, Hw⟩, ⟨%fwg, %ewg, Hwg⟩, ⟨%fq, %eq, Hq⟩, ⟨%fk, %ek, Hk⟩, ⟨%fv, %ev, Hv⟩, ⟨%fdq, %edq, Hdq⟩, ⟨%fdk, %edk, Hdk⟩, ⟨%fdv, %edv, Hdv⟩, ⟨%fz, %ez, Hz⟩, ⟨%fg, %eg, Hg⟩, ⟨%fs, %es, Hs⟩⟩, Hk⟩
  obtain rfl := b.hx.eq_unread ex
  obtain rfl := b.hmd.eq_unread emd
  obtain rfl := b.hnw.eq_unread enw
  obtain rfl := b.hw.eq_unread ew
  obtain rfl := b.hwg.eq_unread ewg
  obtain rfl := b.hq.eq_unread eq
  obtain rfl := b.hk.eq_unread ek
  obtain rfl := b.hv.eq_unread ev
  obtain rfl := b.hdq.eq_unread edq
  obtain rfl := b.hdk.eq_unread edk
  obtain rfl := b.hdv.eq_unread edv
  obtain rfl := b.hz.eq_unread ez
  obtain rfl := b.hg.eq_unread eg
  obtain rfl := b.hs.eq_unread es
  sl_exec (disch := first | sl_exact hc1 | sl_exact hc2 | sl_exact hc3 | sl_exact hc4 | sl_exact hc5 | sl_exact hc6 | sl_exact hc7 | sl_exact hc8)
  sl_step
  iapply Hk
  isplitl [Hx]
  · iexists _; isplitr; swap; · iexact Hx
    ipureintro; exact b.hx.read_unread _
  isplitl [Hmd]
  · iexists _; isplitr; swap; · iexact Hmd
    ipureintro; exact b.hmd.read_unread _
  isplitl [Hnw]
  · iexists _; isplitr; swap; · iexact Hnw
    ipureintro; exact b.hnw.read_unread _
  isplitl [Hw]
  · iexists _; isplitr; swap; · iexact Hw
    ipureintro; exact b.hw.read_unread _
  isplitl [Hwg]
  · iexists _; isplitr; swap; · iexact Hwg
    ipureintro; exact b.hwg.read_unread _
  isplitl [Hq]
  · iexists _; isplitr; swap; · iexact Hq
    ipureintro
    unfold run_0.sl.r_2 run_0.sl.v57 run_0.sl.Hs_1
    have rm3 := readAt_part (F := F) b.hmd v.md (Rect.unit (s := S1x9x2048) ![0, 3, 0] S1x1x2048.size inb_S1x9x2048_S1x1x2048_0_3_0)
    have rm4 := readAt_part (F := F) b.hmd v.md (Rect.unit (s := S1x9x2048) ![0, 4, 0] S1x1x2048.size inb_S1x9x2048_S1x1x2048_0_4_0)
    have rx := readAt_whole (F := F) b.hx v.x ![0, 0, 0] zero3 inb_S1x512x2048_S1x512x2048_0_0_0
    have rnw := readAt_whole (F := F) b.hnw v.nw ![0, 0] zero2 inb_S1x2048_S1x2048_0_0
    have rw_ := readAt_whole (F := F) b.hw v.w ![0, 0] zero2 inb_S2048x1024_S2048x1024_0_0
    rw [View.readCov_cons_toLoadRect, rw_, rm3, rm4, rx, rnw]
    exact read_writes_heads _ _ _ _ _ _ _ _ _ _
  isplitl [Hk]
  · iexists _; isplitr; swap; · iexact Hk
    ipureintro; exact b.hk.read_unread _
  isplitl [Hv]
  · iexists _; isplitr; swap; · iexact Hv
    ipureintro; exact b.hv.read_unread _
  isplitl [Hdq]
  · iexists _; isplitr; swap; · iexact Hdq
    ipureintro; exact b.hdq.read_unread _
  isplitl [Hdk]
  · iexists _; isplitr; swap; · iexact Hdk
    ipureintro; exact b.hdk.read_unread _
  isplitl [Hdv]
  · iexists _; isplitr; swap; · iexact Hdv
    ipureintro; exact b.hdv.read_unread _
  isplitl [Hz]
  · iexists _; isplitr; swap; · iexact Hz
    ipureintro; exact b.hz.read_unread _
  isplitl [Hg]
  · iexists _; isplitr; swap; · iexact Hg
    ipureintro
    unfold run_0.sl.r run_0.sl.v57 run_0.sl.Hs_1
    have rm3 := readAt_part (F := F) b.hmd v.md (Rect.unit (s := S1x9x2048) ![0, 3, 0] S1x1x2048.size inb_S1x9x2048_S1x1x2048_0_3_0)
    have rm4 := readAt_part (F := F) b.hmd v.md (Rect.unit (s := S1x9x2048) ![0, 4, 0] S1x1x2048.size inb_S1x9x2048_S1x1x2048_0_4_0)
    have rx := readAt_whole (F := F) b.hx v.x ![0, 0, 0] zero3 inb_S1x512x2048_S1x512x2048_0_0_0
    have rnw := readAt_whole (F := F) b.hnw v.nw ![0, 0] zero2 inb_S1x2048_S1x2048_0_0
    have rwg := readAt_whole (F := F) b.hwg v.wg ![0, 0] zero2 inb_S2048x128_S2048x128_0_0
    rw [View.readCov_cons_toLoadRect, rwg, rm3, rm4, rx, rnw]
    exact read_writes_whole b.g.view _ ![0, 0, 0] zero3 _ _
  · iexists _; isplitr; swap; · iexact Hs
    ipureintro
    unfold run_0.sl.Hs_1
    have rm3 := readAt_part (F := F) b.hmd v.md (Rect.unit (s := S1x9x2048) ![0, 3, 0] S1x1x2048.size inb_S1x9x2048_S1x1x2048_0_3_0)
    have rm4 := readAt_part (F := F) b.hmd v.md (Rect.unit (s := S1x9x2048) ![0, 4, 0] S1x1x2048.size inb_S1x9x2048_S1x1x2048_0_4_0)
    have rx := readAt_whole (F := F) b.hx v.x ![0, 0, 0] zero3 inb_S1x512x2048_S1x512x2048_0_0_0
    have rnw := readAt_whole (F := F) b.hnw v.nw ![0, 0] zero2 inb_S1x2048_S1x2048_0_0
    rw [rm3, rm4, rx, rnw]
    exact read_writes_whole _ _ _ zero2 _ _

set_option maxHeartbeats 800000 in
theorem run_1 (c : Dev nD) (i : grid0.Coords) (hj : AtPoint i 1) (b : Bufs) (v : Held F) (E : Set ℕ) (K : PUnit → sProp 𝕄) :
    iprop(held c b v ∗ (held c b { v with k := keys v.s v.w } -∗ K ⟨⟩))
      ⊢ wp frame (wpE (defs₀ (F := F)) Variants.none c none) E (body i b) K := by
  have hc1 : ¬ k0_cond1 i = 1#1 := by simp [hj.c1]
  have hc2 : ¬ k0_cond2 i = 1#1 := by simp [hj.c2]
  have hc3 : k0_cond3 i = 1#1 := by simp [hj.c3]
  have hc4 : ¬ k0_cond4 i = 1#1 := by simp [hj.c4]
  have hc5 : ¬ k0_cond5 i = 1#1 := by simp [hj.c5]
  have hc6 : ¬ k0_cond6 i = 1#1 := by simp [hj.c6]
  have hc7 : ¬ k0_cond7 i = 1#1 := by simp [hj.c7]
  have hc8 : ¬ k0_cond8 i = 1#1 := by simp [hj.c8]
  dsimp only [body, held]
  simp only [cc0_inproj_eq_skeleton]; unfold cc0_inproj_skel
  simp only [k0_part1_eq_skeleton, k0_part2_eq_skeleton, k0_part3_eq_skeleton, k0_part4_eq_skeleton, k0_part5_eq_skeleton]
  unfold owns
  iintro ⟨⟨⟨%fx, %ex, Hx⟩, ⟨%fmd, %emd, Hmd⟩, ⟨%fnw, %enw, Hnw⟩, ⟨%fw, %ew, Hw⟩, ⟨%fwg, %ewg, Hwg⟩, ⟨%fq, %eq, Hq⟩, ⟨%fk, %ek, Hk⟩, ⟨%fv, %ev, Hv⟩, ⟨%fdq, %edq, Hdq⟩, ⟨%fdk, %edk, Hdk⟩, ⟨%fdv, %edv, Hdv⟩, ⟨%fz, %ez, Hz⟩, ⟨%fg, %eg, Hg⟩, ⟨%fs, %es, Hs⟩⟩, Hk⟩
  obtain rfl := b.hx.eq_unread ex
  obtain rfl := b.hmd.eq_unread emd
  obtain rfl := b.hnw.eq_unread enw
  obtain rfl := b.hw.eq_unread ew
  obtain rfl := b.hwg.eq_unread ewg
  obtain rfl := b.hq.eq_unread eq
  obtain rfl := b.hk.eq_unread ek
  obtain rfl := b.hv.eq_unread ev
  obtain rfl := b.hdq.eq_unread edq
  obtain rfl := b.hdk.eq_unread edk
  obtain rfl := b.hdv.eq_unread edv
  obtain rfl := b.hz.eq_unread ez
  obtain rfl := b.hg.eq_unread eg
  obtain rfl := b.hs.eq_unread es
  sl_exec (disch := first | sl_exact hc1 | sl_exact hc2 | sl_exact hc3 | sl_exact hc4 | sl_exact hc5 | sl_exact hc6 | sl_exact hc7 | sl_exact hc8)
  sl_step
  iapply Hk
  isplitl [Hx]
  · iexists _; isplitr; swap; · iexact Hx
    ipureintro; exact b.hx.read_unread _
  isplitl [Hmd]
  · iexists _; isplitr; swap; · iexact Hmd
    ipureintro; exact b.hmd.read_unread _
  isplitl [Hnw]
  · iexists _; isplitr; swap; · iexact Hnw
    ipureintro; exact b.hnw.read_unread _
  isplitl [Hw]
  · iexists _; isplitr; swap; · iexact Hw
    ipureintro; exact b.hw.read_unread _
  isplitl [Hwg]
  · iexists _; isplitr; swap; · iexact Hwg
    ipureintro; exact b.hwg.read_unread _
  isplitl [Hq]
  · iexists _; isplitr; swap; · iexact Hq
    ipureintro; exact b.hq.read_unread _
  isplitl [Hk]
  · iexists _; isplitr; swap; · iexact Hk
    ipureintro
    unfold run_1.sl.r
    have rs := readAt_whole (F := F) b.hs v.s ![0, 0] zero2 inb_S512x2048_S512x2048_0_0
    have rw_ := readAt_whole (F := F) b.hw v.w ![0, 0] zero2 inb_S2048x1024_S2048x1024_0_0
    rw [rs, rw_]
    exact read_writes_heads _ _ _ _ _ _ _ _ _ _
  isplitl [Hv]
  · iexists _; isplitr; swap; · iexact Hv
    ipureintro; exact b.hv.read_unread _
  isplitl [Hdq]
  · iexists _; isplitr; swap; · iexact Hdq
    ipureintro; exact b.hdq.read_unread _
  isplitl [Hdk]
  · iexists _; isplitr; swap; · iexact Hdk
    ipureintro; exact b.hdk.read_unread _
  isplitl [Hdv]
  · iexists _; isplitr; swap; · iexact Hdv
    ipureintro; exact b.hdv.read_unread _
  isplitl [Hz]
  · iexists _; isplitr; swap; · iexact Hz
    ipureintro; exact b.hz.read_unread _
  isplitl [Hg]
  · iexists _; isplitr; swap; · iexact Hg
    ipureintro; exact b.hg.read_unread _
  · iexists _; isplitr; swap; · iexact Hs
    ipureintro; exact b.hs.read_unread _

set_option maxHeartbeats 800000 in
theorem run_2 (c : Dev nD) (i : grid0.Coords) (hj : AtPoint i 2) (b : Bufs) (v : Held F) (E : Set ℕ) (K : PUnit → sProp 𝕄) :
    iprop(held c b v ∗ (held c b { v with v := vals v.s v.w } -∗ K ⟨⟩))
      ⊢ wp frame (wpE (defs₀ (F := F)) Variants.none c none) E (body i b) K := by
  have hc1 : ¬ k0_cond1 i = 1#1 := by simp [hj.c1]
  have hc2 : ¬ k0_cond2 i = 1#1 := by simp [hj.c2]
  have hc3 : ¬ k0_cond3 i = 1#1 := by simp [hj.c3]
  have hc4 : k0_cond4 i = 1#1 := by simp [hj.c4]
  have hc5 : ¬ k0_cond5 i = 1#1 := by simp [hj.c5]
  have hc6 : ¬ k0_cond6 i = 1#1 := by simp [hj.c6]
  have hc7 : ¬ k0_cond7 i = 1#1 := by simp [hj.c7]
  have hc8 : ¬ k0_cond8 i = 1#1 := by simp [hj.c8]
  dsimp only [body, held]
  simp only [cc0_inproj_eq_skeleton]; unfold cc0_inproj_skel
  simp only [k0_part1_eq_skeleton, k0_part2_eq_skeleton, k0_part3_eq_skeleton, k0_part4_eq_skeleton, k0_part5_eq_skeleton]
  unfold owns
  iintro ⟨⟨⟨%fx, %ex, Hx⟩, ⟨%fmd, %emd, Hmd⟩, ⟨%fnw, %enw, Hnw⟩, ⟨%fw, %ew, Hw⟩, ⟨%fwg, %ewg, Hwg⟩, ⟨%fq, %eq, Hq⟩, ⟨%fk, %ek, Hk⟩, ⟨%fv, %ev, Hv⟩, ⟨%fdq, %edq, Hdq⟩, ⟨%fdk, %edk, Hdk⟩, ⟨%fdv, %edv, Hdv⟩, ⟨%fz, %ez, Hz⟩, ⟨%fg, %eg, Hg⟩, ⟨%fs, %es, Hs⟩⟩, Hk⟩
  obtain rfl := b.hx.eq_unread ex
  obtain rfl := b.hmd.eq_unread emd
  obtain rfl := b.hnw.eq_unread enw
  obtain rfl := b.hw.eq_unread ew
  obtain rfl := b.hwg.eq_unread ewg
  obtain rfl := b.hq.eq_unread eq
  obtain rfl := b.hk.eq_unread ek
  obtain rfl := b.hv.eq_unread ev
  obtain rfl := b.hdq.eq_unread edq
  obtain rfl := b.hdk.eq_unread edk
  obtain rfl := b.hdv.eq_unread edv
  obtain rfl := b.hz.eq_unread ez
  obtain rfl := b.hg.eq_unread eg
  obtain rfl := b.hs.eq_unread es
  sl_exec (disch := first | sl_exact hc1 | sl_exact hc2 | sl_exact hc3 | sl_exact hc4 | sl_exact hc5 | sl_exact hc6 | sl_exact hc7 | sl_exact hc8)
  sl_step
  iapply Hk
  isplitl [Hx]
  · iexists _; isplitr; swap; · iexact Hx
    ipureintro; exact b.hx.read_unread _
  isplitl [Hmd]
  · iexists _; isplitr; swap; · iexact Hmd
    ipureintro; exact b.hmd.read_unread _
  isplitl [Hnw]
  · iexists _; isplitr; swap; · iexact Hnw
    ipureintro; exact b.hnw.read_unread _
  isplitl [Hw]
  · iexists _; isplitr; swap; · iexact Hw
    ipureintro; exact b.hw.read_unread _
  isplitl [Hwg]
  · iexists _; isplitr; swap; · iexact Hwg
    ipureintro; exact b.hwg.read_unread _
  isplitl [Hq]
  · iexists _; isplitr; swap; · iexact Hq
    ipureintro; exact b.hq.read_unread _
  isplitl [Hk]
  · iexists _; isplitr; swap; · iexact Hk
    ipureintro; exact b.hk.read_unread _
  isplitl [Hv]
  · iexists _; isplitr; swap; · iexact Hv
    ipureintro
    unfold run_2.sl.r
    have rs := readAt_whole (F := F) b.hs v.s ![0, 0] zero2 inb_S512x2048_S512x2048_0_0
    have rw_ := readAt_whole (F := F) b.hw v.w ![0, 0] zero2 inb_S2048x1024_S2048x1024_0_0
    rw [rs, rw_]
    exact read_writes_heads _ _ _ _ _ _ _ _ _ _
  isplitl [Hdq]
  · iexists _; isplitr; swap; · iexact Hdq
    ipureintro; exact b.hdq.read_unread _
  isplitl [Hdk]
  · iexists _; isplitr; swap; · iexact Hdk
    ipureintro; exact b.hdk.read_unread _
  isplitl [Hdv]
  · iexists _; isplitr; swap; · iexact Hdv
    ipureintro; exact b.hdv.read_unread _
  isplitl [Hz]
  · iexists _; isplitr; swap; · iexact Hz
    ipureintro; exact b.hz.read_unread _
  isplitl [Hg]
  · iexists _; isplitr; swap; · iexact Hg
    ipureintro; exact b.hg.read_unread _
  · iexists _; isplitr; swap; · iexact Hs
    ipureintro; exact b.hs.read_unread _

set_option maxHeartbeats 800000 in
theorem run_3 (c : Dev nD) (i : grid0.Coords) (hj : AtPoint i 3) (b : Bufs) (v : Held F) (E : Set ℕ) (K : PUnit → sProp 𝕄) :
    iprop(held c b v ∗ (held c b { v with dq := k0_pay32 v.s v.w } -∗ K ⟨⟩))
      ⊢ wp frame (wpE (defs₀ (F := F)) Variants.none c none) E (body i b) K := by
  have hc1 : ¬ k0_cond1 i = 1#1 := by simp [hj.c1]
  have hc2 : ¬ k0_cond2 i = 1#1 := by simp [hj.c2]
  have hc3 : ¬ k0_cond3 i = 1#1 := by simp [hj.c3]
  have hc4 : ¬ k0_cond4 i = 1#1 := by simp [hj.c4]
  have hc5 : k0_cond5 i = 1#1 := by simp [hj.c5]
  have hc6 : ¬ k0_cond6 i = 1#1 := by simp [hj.c6]
  have hc7 : ¬ k0_cond7 i = 1#1 := by simp [hj.c7]
  have hc8 : ¬ k0_cond8 i = 1#1 := by simp [hj.c8]
  dsimp only [body, held]
  simp only [cc0_inproj_eq_skeleton]; unfold cc0_inproj_skel
  simp only [k0_part1_eq_skeleton, k0_part2_eq_skeleton, k0_part3_eq_skeleton, k0_part4_eq_skeleton, k0_part5_eq_skeleton]
  unfold owns
  iintro ⟨⟨⟨%fx, %ex, Hx⟩, ⟨%fmd, %emd, Hmd⟩, ⟨%fnw, %enw, Hnw⟩, ⟨%fw, %ew, Hw⟩, ⟨%fwg, %ewg, Hwg⟩, ⟨%fq, %eq, Hq⟩, ⟨%fk, %ek, Hk⟩, ⟨%fv, %ev, Hv⟩, ⟨%fdq, %edq, Hdq⟩, ⟨%fdk, %edk, Hdk⟩, ⟨%fdv, %edv, Hdv⟩, ⟨%fz, %ez, Hz⟩, ⟨%fg, %eg, Hg⟩, ⟨%fs, %es, Hs⟩⟩, Hk⟩
  obtain rfl := b.hx.eq_unread ex
  obtain rfl := b.hmd.eq_unread emd
  obtain rfl := b.hnw.eq_unread enw
  obtain rfl := b.hw.eq_unread ew
  obtain rfl := b.hwg.eq_unread ewg
  obtain rfl := b.hq.eq_unread eq
  obtain rfl := b.hk.eq_unread ek
  obtain rfl := b.hv.eq_unread ev
  obtain rfl := b.hdq.eq_unread edq
  obtain rfl := b.hdk.eq_unread edk
  obtain rfl := b.hdv.eq_unread edv
  obtain rfl := b.hz.eq_unread ez
  obtain rfl := b.hg.eq_unread eg
  obtain rfl := b.hs.eq_unread es
  sl_exec (disch := first | sl_exact hc1 | sl_exact hc2 | sl_exact hc3 | sl_exact hc4 | sl_exact hc5 | sl_exact hc6 | sl_exact hc7 | sl_exact hc8)
  sl_step
  iapply Hk
  isplitl [Hx]
  · iexists _; isplitr; swap; · iexact Hx
    ipureintro; exact b.hx.read_unread _
  isplitl [Hmd]
  · iexists _; isplitr; swap; · iexact Hmd
    ipureintro; exact b.hmd.read_unread _
  isplitl [Hnw]
  · iexists _; isplitr; swap; · iexact Hnw
    ipureintro; exact b.hnw.read_unread _
  isplitl [Hw]
  · iexists _; isplitr; swap; · iexact Hw
    ipureintro; exact b.hw.read_unread _
  isplitl [Hwg]
  · iexists _; isplitr; swap; · iexact Hwg
    ipureintro; exact b.hwg.read_unread _
  isplitl [Hq]
  · iexists _; isplitr; swap; · iexact Hq
    ipureintro; exact b.hq.read_unread _
  isplitl [Hk]
  · iexists _; isplitr; swap; · iexact Hk
    ipureintro; exact b.hk.read_unread _
  isplitl [Hv]
  · iexists _; isplitr; swap; · iexact Hv
    ipureintro; exact b.hv.read_unread _
  isplitl [Hdq]
  · iexists _; isplitr; swap; · iexact Hdq
    ipureintro
    have rs := readAt_whole (F := F) b.hs v.s ![0, 0] zero2 inb_S512x2048_S512x2048_0_0
    have rw_ := readAt_whole (F := F) b.hw v.w ![0, 0] zero2 inb_S2048x1024_S2048x1024_0_0
    rw [rs, rw_]
    exact read_writes_whole b.dq.view _ ![0, 0, 0] zero3 _ _
  isplitl [Hdk]
  · iexists _; isplitr; swap; · iexact Hdk
    ipureintro; exact b.hdk.read_unread _
  isplitl [Hdv]
  · iexists _; isplitr; swap; · iexact Hdv
    ipureintro; exact b.hdv.read_unread _
  isplitl [Hz]
  · iexists _; isplitr; swap; · iexact Hz
    ipureintro; exact b.hz.read_unread _
  isplitl [Hg]
  · iexists _; isplitr; swap; · iexact Hg
    ipureintro; exact b.hg.read_unread _
  · iexists _; isplitr; swap; · iexact Hs
    ipureintro; exact b.hs.read_unread _

set_option maxHeartbeats 800000 in
theorem run_4 (c : Dev nD) (i : grid0.Coords) (hj : AtPoint i 4) (b : Bufs) (v : Held F) (E : Set ℕ) (K : PUnit → sProp 𝕄) :
    iprop(held c b v ∗ (held c b { v with dk := k0_pay33 v.s v.w } -∗ K ⟨⟩))
      ⊢ wp frame (wpE (defs₀ (F := F)) Variants.none c none) E (body i b) K := by
  have hc1 : ¬ k0_cond1 i = 1#1 := by simp [hj.c1]
  have hc2 : ¬ k0_cond2 i = 1#1 := by simp [hj.c2]
  have hc3 : ¬ k0_cond3 i = 1#1 := by simp [hj.c3]
  have hc4 : ¬ k0_cond4 i = 1#1 := by simp [hj.c4]
  have hc5 : ¬ k0_cond5 i = 1#1 := by simp [hj.c5]
  have hc6 : k0_cond6 i = 1#1 := by simp [hj.c6]
  have hc7 : ¬ k0_cond7 i = 1#1 := by simp [hj.c7]
  have hc8 : ¬ k0_cond8 i = 1#1 := by simp [hj.c8]
  dsimp only [body, held]
  simp only [cc0_inproj_eq_skeleton]; unfold cc0_inproj_skel
  simp only [k0_part1_eq_skeleton, k0_part2_eq_skeleton, k0_part3_eq_skeleton, k0_part4_eq_skeleton, k0_part5_eq_skeleton]
  unfold owns
  iintro ⟨⟨⟨%fx, %ex, Hx⟩, ⟨%fmd, %emd, Hmd⟩, ⟨%fnw, %enw, Hnw⟩, ⟨%fw, %ew, Hw⟩, ⟨%fwg, %ewg, Hwg⟩, ⟨%fq, %eq, Hq⟩, ⟨%fk, %ek, Hk⟩, ⟨%fv, %ev, Hv⟩, ⟨%fdq, %edq, Hdq⟩, ⟨%fdk, %edk, Hdk⟩, ⟨%fdv, %edv, Hdv⟩, ⟨%fz, %ez, Hz⟩, ⟨%fg, %eg, Hg⟩, ⟨%fs, %es, Hs⟩⟩, Hk⟩
  obtain rfl := b.hx.eq_unread ex
  obtain rfl := b.hmd.eq_unread emd
  obtain rfl := b.hnw.eq_unread enw
  obtain rfl := b.hw.eq_unread ew
  obtain rfl := b.hwg.eq_unread ewg
  obtain rfl := b.hq.eq_unread eq
  obtain rfl := b.hk.eq_unread ek
  obtain rfl := b.hv.eq_unread ev
  obtain rfl := b.hdq.eq_unread edq
  obtain rfl := b.hdk.eq_unread edk
  obtain rfl := b.hdv.eq_unread edv
  obtain rfl := b.hz.eq_unread ez
  obtain rfl := b.hg.eq_unread eg
  obtain rfl := b.hs.eq_unread es
  sl_exec (disch := first | sl_exact hc1 | sl_exact hc2 | sl_exact hc3 | sl_exact hc4 | sl_exact hc5 | sl_exact hc6 | sl_exact hc7 | sl_exact hc8)
  sl_step
  iapply Hk
  isplitl [Hx]
  · iexists _; isplitr; swap; · iexact Hx
    ipureintro; exact b.hx.read_unread _
  isplitl [Hmd]
  · iexists _; isplitr; swap; · iexact Hmd
    ipureintro; exact b.hmd.read_unread _
  isplitl [Hnw]
  · iexists _; isplitr; swap; · iexact Hnw
    ipureintro; exact b.hnw.read_unread _
  isplitl [Hw]
  · iexists _; isplitr; swap; · iexact Hw
    ipureintro; exact b.hw.read_unread _
  isplitl [Hwg]
  · iexists _; isplitr; swap; · iexact Hwg
    ipureintro; exact b.hwg.read_unread _
  isplitl [Hq]
  · iexists _; isplitr; swap; · iexact Hq
    ipureintro; exact b.hq.read_unread _
  isplitl [Hk]
  · iexists _; isplitr; swap; · iexact Hk
    ipureintro; exact b.hk.read_unread _
  isplitl [Hv]
  · iexists _; isplitr; swap; · iexact Hv
    ipureintro; exact b.hv.read_unread _
  isplitl [Hdq]
  · iexists _; isplitr; swap; · iexact Hdq
    ipureintro; exact b.hdq.read_unread _
  isplitl [Hdk]
  · iexists _; isplitr; swap; · iexact Hdk
    ipureintro
    have rs := readAt_whole (F := F) b.hs v.s ![0, 0] zero2 inb_S512x2048_S512x2048_0_0
    have rw_ := readAt_whole (F := F) b.hw v.w ![0, 0] zero2 inb_S2048x1024_S2048x1024_0_0
    rw [rs, rw_]
    exact read_writes_whole b.dk.view _ ![0, 0, 0] zero3 _ _
  isplitl [Hdv]
  · iexists _; isplitr; swap; · iexact Hdv
    ipureintro; exact b.hdv.read_unread _
  isplitl [Hz]
  · iexists _; isplitr; swap; · iexact Hz
    ipureintro; exact b.hz.read_unread _
  isplitl [Hg]
  · iexists _; isplitr; swap; · iexact Hg
    ipureintro; exact b.hg.read_unread _
  · iexists _; isplitr; swap; · iexact Hs
    ipureintro; exact b.hs.read_unread _

set_option maxHeartbeats 800000 in
theorem run_5 (c : Dev nD) (i : grid0.Coords) (hj : AtPoint i 5) (b : Bufs) (v : Held F) (E : Set ℕ) (K : PUnit → sProp 𝕄) :
    iprop(held c b v ∗ (held c b { v with dv := k0_pay34 v.s v.w } -∗ K ⟨⟩))
      ⊢ wp frame (wpE (defs₀ (F := F)) Variants.none c none) E (body i b) K := by
  have hc1 : ¬ k0_cond1 i = 1#1 := by simp [hj.c1]
  have hc2 : ¬ k0_cond2 i = 1#1 := by simp [hj.c2]
  have hc3 : ¬ k0_cond3 i = 1#1 := by simp [hj.c3]
  have hc4 : ¬ k0_cond4 i = 1#1 := by simp [hj.c4]
  have hc5 : ¬ k0_cond5 i = 1#1 := by simp [hj.c5]
  have hc6 : ¬ k0_cond6 i = 1#1 := by simp [hj.c6]
  have hc7 : k0_cond7 i = 1#1 := by simp [hj.c7]
  have hc8 : ¬ k0_cond8 i = 1#1 := by simp [hj.c8]
  dsimp only [body, held]
  simp only [cc0_inproj_eq_skeleton]; unfold cc0_inproj_skel
  simp only [k0_part1_eq_skeleton, k0_part2_eq_skeleton, k0_part3_eq_skeleton, k0_part4_eq_skeleton, k0_part5_eq_skeleton]
  unfold owns
  iintro ⟨⟨⟨%fx, %ex, Hx⟩, ⟨%fmd, %emd, Hmd⟩, ⟨%fnw, %enw, Hnw⟩, ⟨%fw, %ew, Hw⟩, ⟨%fwg, %ewg, Hwg⟩, ⟨%fq, %eq, Hq⟩, ⟨%fk, %ek, Hk⟩, ⟨%fv, %ev, Hv⟩, ⟨%fdq, %edq, Hdq⟩, ⟨%fdk, %edk, Hdk⟩, ⟨%fdv, %edv, Hdv⟩, ⟨%fz, %ez, Hz⟩, ⟨%fg, %eg, Hg⟩, ⟨%fs, %es, Hs⟩⟩, Hk⟩
  obtain rfl := b.hx.eq_unread ex
  obtain rfl := b.hmd.eq_unread emd
  obtain rfl := b.hnw.eq_unread enw
  obtain rfl := b.hw.eq_unread ew
  obtain rfl := b.hwg.eq_unread ewg
  obtain rfl := b.hq.eq_unread eq
  obtain rfl := b.hk.eq_unread ek
  obtain rfl := b.hv.eq_unread ev
  obtain rfl := b.hdq.eq_unread edq
  obtain rfl := b.hdk.eq_unread edk
  obtain rfl := b.hdv.eq_unread edv
  obtain rfl := b.hz.eq_unread ez
  obtain rfl := b.hg.eq_unread eg
  obtain rfl := b.hs.eq_unread es
  sl_exec (disch := first | sl_exact hc1 | sl_exact hc2 | sl_exact hc3 | sl_exact hc4 | sl_exact hc5 | sl_exact hc6 | sl_exact hc7 | sl_exact hc8)
  sl_step
  iapply Hk
  isplitl [Hx]
  · iexists _; isplitr; swap; · iexact Hx
    ipureintro; exact b.hx.read_unread _
  isplitl [Hmd]
  · iexists _; isplitr; swap; · iexact Hmd
    ipureintro; exact b.hmd.read_unread _
  isplitl [Hnw]
  · iexists _; isplitr; swap; · iexact Hnw
    ipureintro; exact b.hnw.read_unread _
  isplitl [Hw]
  · iexists _; isplitr; swap; · iexact Hw
    ipureintro; exact b.hw.read_unread _
  isplitl [Hwg]
  · iexists _; isplitr; swap; · iexact Hwg
    ipureintro; exact b.hwg.read_unread _
  isplitl [Hq]
  · iexists _; isplitr; swap; · iexact Hq
    ipureintro; exact b.hq.read_unread _
  isplitl [Hk]
  · iexists _; isplitr; swap; · iexact Hk
    ipureintro; exact b.hk.read_unread _
  isplitl [Hv]
  · iexists _; isplitr; swap; · iexact Hv
    ipureintro; exact b.hv.read_unread _
  isplitl [Hdq]
  · iexists _; isplitr; swap; · iexact Hdq
    ipureintro; exact b.hdq.read_unread _
  isplitl [Hdk]
  · iexists _; isplitr; swap; · iexact Hdk
    ipureintro; exact b.hdk.read_unread _
  isplitl [Hdv]
  · iexists _; isplitr; swap; · iexact Hdv
    ipureintro
    have rs := readAt_whole (F := F) b.hs v.s ![0, 0] zero2 inb_S512x2048_S512x2048_0_0
    have rw_ := readAt_whole (F := F) b.hw v.w ![0, 0] zero2 inb_S2048x1024_S2048x1024_0_0
    rw [rs, rw_]
    exact read_writes_whole b.dv.view _ ![0, 0, 0] zero3 _ _
  isplitl [Hz]
  · iexists _; isplitr; swap; · iexact Hz
    ipureintro; exact b.hz.read_unread _
  isplitl [Hg]
  · iexists _; isplitr; swap; · iexact Hg
    ipureintro; exact b.hg.read_unread _
  · iexists _; isplitr; swap; · iexact Hs
    ipureintro; exact b.hs.read_unread _

set_option maxHeartbeats 800000 in
theorem run_6 (c : Dev nD) (i : grid0.Coords) (hj : AtPoint i 6) (b : Bufs) (v : Held F) (E : Set ℕ) (K : PUnit → sProp 𝕄) :
    iprop(held c b v ∗ (held c b { v with z := k0_pay35 v.s v.w } -∗ K ⟨⟩))
      ⊢ wp frame (wpE (defs₀ (F := F)) Variants.none c none) E (body i b) K := by
  have hc1 : ¬ k0_cond1 i = 1#1 := by simp [hj.c1]
  have hc2 : ¬ k0_cond2 i = 1#1 := by simp [hj.c2]
  have hc3 : ¬ k0_cond3 i = 1#1 := by simp [hj.c3]
  have hc4 : ¬ k0_cond4 i = 1#1 := by simp [hj.c4]
  have hc5 : ¬ k0_cond5 i = 1#1 := by simp [hj.c5]
  have hc6 : ¬ k0_cond6 i = 1#1 := by simp [hj.c6]
  have hc7 : ¬ k0_cond7 i = 1#1 := by simp [hj.c7]
  have hc8 : k0_cond8 i = 1#1 := by simp [hj.c8]
  dsimp only [body, held]
  simp only [cc0_inproj_eq_skeleton]; unfold cc0_inproj_skel
  simp only [k0_part1_eq_skeleton, k0_part2_eq_skeleton, k0_part3_eq_skeleton, k0_part4_eq_skeleton, k0_part5_eq_skeleton]
  unfold owns
  iintro ⟨⟨⟨%fx, %ex, Hx⟩, ⟨%fmd, %emd, Hmd⟩, ⟨%fnw, %enw, Hnw⟩, ⟨%fw, %ew, Hw⟩, ⟨%fwg, %ewg, Hwg⟩, ⟨%fq, %eq, Hq⟩, ⟨%fk, %ek, Hk⟩, ⟨%fv, %ev, Hv⟩, ⟨%fdq, %edq, Hdq⟩, ⟨%fdk, %edk, Hdk⟩, ⟨%fdv, %edv, Hdv⟩, ⟨%fz, %ez, Hz⟩, ⟨%fg, %eg, Hg⟩, ⟨%fs, %es, Hs⟩⟩, Hk⟩
  obtain rfl := b.hx.eq_unread ex
  obtain rfl := b.hmd.eq_unread emd
  obtain rfl := b.hnw.eq_unread enw
  obtain rfl := b.hw.eq_unread ew
  obtain rfl := b.hwg.eq_unread ewg
  obtain rfl := b.hq.eq_unread eq
  obtain rfl := b.hk.eq_unread ek
  obtain rfl := b.hv.eq_unread ev
  obtain rfl := b.hdq.eq_unread edq
  obtain rfl := b.hdk.eq_unread edk
  obtain rfl := b.hdv.eq_unread edv
  obtain rfl := b.hz.eq_unread ez
  obtain rfl := b.hg.eq_unread eg
  obtain rfl := b.hs.eq_unread es
  sl_exec (disch := first | sl_exact hc1 | sl_exact hc2 | sl_exact hc3 | sl_exact hc4 | sl_exact hc5 | sl_exact hc6 | sl_exact hc7 | sl_exact hc8)
  sl_step
  iapply Hk
  isplitl [Hx]
  · iexists _; isplitr; swap; · iexact Hx
    ipureintro; exact b.hx.read_unread _
  isplitl [Hmd]
  · iexists _; isplitr; swap; · iexact Hmd
    ipureintro; exact b.hmd.read_unread _
  isplitl [Hnw]
  · iexists _; isplitr; swap; · iexact Hnw
    ipureintro; exact b.hnw.read_unread _
  isplitl [Hw]
  · iexists _; isplitr; swap; · iexact Hw
    ipureintro; exact b.hw.read_unread _
  isplitl [Hwg]
  · iexists _; isplitr; swap; · iexact Hwg
    ipureintro; exact b.hwg.read_unread _
  isplitl [Hq]
  · iexists _; isplitr; swap; · iexact Hq
    ipureintro; exact b.hq.read_unread _
  isplitl [Hk]
  · iexists _; isplitr; swap; · iexact Hk
    ipureintro; exact b.hk.read_unread _
  isplitl [Hv]
  · iexists _; isplitr; swap; · iexact Hv
    ipureintro; exact b.hv.read_unread _
  isplitl [Hdq]
  · iexists _; isplitr; swap; · iexact Hdq
    ipureintro; exact b.hdq.read_unread _
  isplitl [Hdk]
  · iexists _; isplitr; swap; · iexact Hdk
    ipureintro; exact b.hdk.read_unread _
  isplitl [Hdv]
  · iexists _; isplitr; swap; · iexact Hdv
    ipureintro; exact b.hdv.read_unread _
  isplitl [Hz]
  · iexists _; isplitr; swap; · iexact Hz
    ipureintro
    have rs := readAt_whole (F := F) b.hs v.s ![0, 0] zero2 inb_S512x2048_S512x2048_0_0
    have rw_ := readAt_whole (F := F) b.hw v.w ![0, 0] zero2 inb_S2048x1024_S2048x1024_0_0
    rw [rs, rw_]
    exact read_writes_whole b.z.view _ ![0, 0, 0] zero3 _ _
  isplitl [Hg]
  · iexists _; isplitr; swap; · iexact Hg
    ipureintro; exact b.hg.read_unread _
  · iexists _; isplitr; swap; · iexact Hs
    ipureintro; exact b.hs.read_unread _

end Cert.Kernel5Ideal.InProj
-- ==== Proof.InFrame.lean ====
module

public import proofs.«01_k».proof.Proof.InRun
public import proofs.«01_k».proof.Proof.Gen.Kernel5Ideal.Frame
public import Idealize.ShloMosaic.Lib.WordCmp

/-! The input projections' frame. A row block is seven points of the grid, and every result's block is written back after the
last of them, whichever of them stored it: what a point leaves is what the row block's points have stored so far. -/

@[expose] public section

set_option maxRecDepth 16384

noncomputable section

namespace Cert.Kernel5Ideal.InProj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers after the `j`-th of a row block's points. -/
def next (j : ℕ) (v : Held F) : Held F :=
  { v with
    q := if j = 0 then queries (rows v.x v.md v.nw) v.w else v.q
    k := if j = 1 then keys v.s v.w else v.k
    v := if j = 2 then vals v.s v.w else v.v
    dq := if j = 3 then k0_pay32 v.s v.w else v.dq
    dk := if j = 4 then k0_pay33 v.s v.w else v.dk
    dv := if j = 5 then k0_pay34 v.s v.w else v.dv
    z := if j = 6 then k0_pay35 v.s v.w else v.z
    g := if j = 0 then gates (rows v.x v.md v.nw) v.wg else v.g
    s := if j = 0 then rows v.x v.md v.nw else v.s }

theorem run_any (c : Dev nD) (i : grid0.Coords) (j : ℕ) (hl : j < 7) (hj : AtPoint i j) (b : Bufs) (v : Held F) (E : Set ℕ) (K : PUnit → sProp 𝕄) :
    iprop(held c b v ∗ (held c b (next j v) -∗ K ⟨⟩)) ⊢ wp frame (wpE (defs₀ (F := F)) Variants.none c none) E (body i b) K := by
  rcases (by omega : j = 0 ∨ j = 1 ∨ j = 2 ∨ j = 3 ∨ j = 4 ∨ j = 5 ∨ j = 6) with rfl | rfl | rfl | rfl | rfl | rfl | rfl
  · exact run_0 c i hj b v E K
  · exact run_1 c i hj b v E K
  · exact run_2 c i hj b v E K
  · exact run_3 c i hj b v E K
  · exact run_4 c i hj b v E K
  · exact run_5 c i hj b v E K
  · exact run_6 c i hj b v E K

/-- The conditions in closed form. -/
theorem atPoint (t : Fin cfg0.N) : AtPoint (grid0.coords t) (t.val % 7) := by
  have ht : t.val < 448 := Nat.lt_of_lt_of_eq t.isLt N_0
  have e2 : (grid0.coords t 2).val = t.val / 1 % 7 := Pipeline.Grid.coords_val t 2 (by decide) rfl
  have h1 : k0_cond1 (grid0.coords t) = 1#1 ↔ t.val % 7 = 0 := by
    simp only [k0_cond1, e2]
    word_cmp
  have h2 : k0_cond2 (grid0.coords t) = 1#1 ↔ t.val % 7 = 0 := by
    simp only [k0_cond2, e2]
    word_cmp
  have h3 : k0_cond3 (grid0.coords t) = 1#1 ↔ t.val % 7 = 1 := by
    simp only [k0_cond3, e2]
    word_cmp
  have h4 : k0_cond4 (grid0.coords t) = 1#1 ↔ t.val % 7 = 2 := by
    simp only [k0_cond4, e2]
    word_cmp
  have h5 : k0_cond5 (grid0.coords t) = 1#1 ↔ t.val % 7 = 3 := by
    simp only [k0_cond5, e2]
    word_cmp
  have h6 : k0_cond6 (grid0.coords t) = 1#1 ↔ t.val % 7 = 4 := by
    simp only [k0_cond6, e2]
    word_cmp
  have h7 : k0_cond7 (grid0.coords t) = 1#1 ↔ t.val % 7 = 5 := by
    simp only [k0_cond7, e2]
    word_cmp
  have h8 : k0_cond8 (grid0.coords t) = 1#1 ↔ t.val % 7 = 6 := by
    simp only [k0_cond8, e2]
    word_cmp
  exact ⟨h1, h2, h3, h4, h5, h6, h7, h8⟩

variable (m : (ℓ : Loc nD τ sig) → Buf (Elt F) ℓ) (ρ : Dev nD → PrngReg)

/-- The `k`-th point of `t`'s row block. -/
def pt (t : Fin cfg0.N) (k : Fin 7) : Fin cfg0.N :=
  ⟨7 * (t.val / 7) + k.val, by have h : t.val < 448 := Nat.lt_of_lt_of_eq t.isLt N_0; have hk := k.isLt; exact Nat.lt_of_lt_of_eq (by omega : 7 * (t.val / 7) + k.val < 448) N_0.symm⟩

theorem pt_congr {t t' : Fin cfg0.N} (h : t.val / 7 = t'.val / 7) (k : Fin 7) : pt t k = pt t' k :=
  Fin.ext (by show 7 * (t.val / 7) + k.val = 7 * (t'.val / 7) + k.val; rw [h])
theorem pt_self (t : Fin cfg0.N) (k : Fin 7) (h : t.val % 7 = k.val) : pt t k = t :=
  Fin.ext (by show 7 * (t.val / 7) + k.val = t.val; omega)

/-- The scratch of `t`'s row block. -/
def scr (c : Dev nD) (t : Fin cfg0.N) : Vec F S512x2048 .bf16 := rows (iblk m c 0 (pt t 0)) (iblk m c 1 (pt t 0)) (iblk m c 2 (pt t 0))

theorem scr_congr (c : Dev nD) {t t' : Fin cfg0.N} (h : t.val / 7 = t'.val / 7) : scr m c t = scr m c t' := by
  unfold scr; rw [pt_congr h]

abbrev scMem : Memref sig .tc .vmem S512x2048 .bf16 := Memref.whole cc0_scratch0

/-- Between the points: the scratch at its row block's rows. -/
def PhiS (c : Dev nD) (n : ℕ) (h : n ≤ cfg0.N) : sProp 𝕄 :=
  match n, h with
  | 0, _ => Pipeline.ΦA spec0 c
  | n + 1, h => iprop(owns (c : Thread nD τ) scMem fullShare (scr m c ⟨n, h⟩) ∗ ∃ r, prngReg c r)

theorem PhiA0 (c : Dev nD) : (Pipeline.ΦA spec0 c : sProp 𝕄) = iprop((∃ d, owns (c : Thread nD τ) scMem fullShare d) ∗ ∃ r, prngReg c r) := by
  unfold Pipeline.ΦA; rw [scopedRest0_eq]; simp only [scMem, owns_whole]; try rfl

theorem PhiS_open (c : Dev nD) (t : Fin cfg0.N) : PhiS m c t.val (Nat.le_of_lt t.isLt)
    ⊢ iprop(∃ s, ⌜t.val % 7 ≠ 0 → s = scr m c t⌝ ∗ owns (c : Thread nD τ) scMem fullShare s ∗ ∃ r, prngReg c r) := by
  obtain ⟨n, hn⟩ := t
  cases n with
  | zero =>
    rw [show PhiS m c (⟨0, hn⟩ : Fin cfg0.N).val (Nat.le_of_lt hn) = Pipeline.ΦA spec0 c from rfl, PhiA0]
    iintro ⟨⟨%s, HS⟩, Hg⟩
    iexists s
    isplitr
    · ipureintro; exact fun h => absurd rfl h
    isplitl [HS]
    · iexact HS
    iexact Hg
  | succ n =>
    rw [show PhiS m c (⟨n + 1, hn⟩ : Fin cfg0.N).val (Nat.le_of_lt hn) = iprop(owns (c : Thread nD τ) scMem fullShare (scr m c ⟨n, Nat.lt_of_succ_lt hn⟩) ∗ ∃ r, prngReg c r) from rfl]
    iintro ⟨HS, Hg⟩
    iexists _
    isplitr
    swap
    · isplitl [HS]
      · iexact HS
      iexact Hg
    ipureintro
    intro h
    refine scr_congr m c ?_
    have h' : (n + 1) % 7 ≠ 0 := h
    show n / 7 = (n + 1) / 7
    omega

/-- What each window's buffer is left at. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => queries (scr m c t) (iblk m c 3 (pt t 0))
    | ⟨6, _⟩ => keys (scr m c t) (iblk m c 3 (pt t 1))
    | ⟨7, _⟩ => vals (scr m c t) (iblk m c 3 (pt t 2))
    | ⟨8, _⟩ => k0_pay32 (scr m c t) (iblk m c 3 (pt t 3))
    | ⟨9, _⟩ => k0_pay33 (scr m c t) (iblk m c 3 (pt t 4))
    | ⟨10, _⟩ => k0_pay34 (scr m c t) (iblk m c 3 (pt t 5))
    | ⟨11, _⟩ => k0_pay35 (scr m c t) (iblk m c 3 (pt t 6))
    | ⟨12, _⟩ => gates (scr m c t) (iblk m c 4 (pt t 0))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = queries (scr m c t) (iblk m c 3 (pt t 0)) := by dsimp only [dats]
theorem after6 (c : Dev nD) (t : Fin cfg0.N) : (dats m 0 c).after 6 t = keys (scr m c t) (iblk m c 3 (pt t 1)) := by dsimp only [dats]
theorem after7 (c : Dev nD) (t : Fin cfg0.N) : (dats m 0 c).after 7 t = vals (scr m c t) (iblk m c 3 (pt t 2)) := by dsimp only [dats]
theorem after8 (c : Dev nD) (t : Fin cfg0.N) : (dats m 0 c).after 8 t = k0_pay32 (scr m c t) (iblk m c 3 (pt t 3)) := by dsimp only [dats]
theorem after9 (c : Dev nD) (t : Fin cfg0.N) : (dats m 0 c).after 9 t = k0_pay33 (scr m c t) (iblk m c 3 (pt t 4)) := by dsimp only [dats]
theorem after10 (c : Dev nD) (t : Fin cfg0.N) : (dats m 0 c).after 10 t = k0_pay34 (scr m c t) (iblk m c 3 (pt t 5)) := by dsimp only [dats]
theorem after11 (c : Dev nD) (t : Fin cfg0.N) : (dats m 0 c).after 11 t = k0_pay35 (scr m c t) (iblk m c 3 (pt t 6)) := by dsimp only [dats]
theorem after12 (c : Dev nD) (t : Fin cfg0.N) : (dats m 0 c).after 12 t = gates (scr m c t) (iblk m c 4 (pt t 0)) := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d

/-- A result's window is stored at the `k`-th point of a row block and written back after the last. -/
structure StoredAt (c : Dev nD) (w : Fin cfg0.W) (k : ℕ) : Prop where
  fetch : ∀ t, (cfg0.win w).fetch t = false
  flush : ∀ t, (cfg0.win w).flush t = true ↔ t.val % 7 = 6
  idle : ∀ t, cfg0.idle w (cfg0.grid.coords t) = true ↔ t.val % 7 ≠ k
  kept : ∀ t d, (dats m 0 c).kept w t d = (dats m 0 c).after w t
  same : ∀ t t' : Fin cfg0.N, t.val / 7 = t'.val / 7 → (dats m 0 c).after w t = (dats m 0 c).after w t'

/-- After the point that stores it a window's buffer is found as that point left it. -/
theorem StoredAt.found {c : Dev nD} {w : Fin cfg0.W} {k : ℕ} (h : StoredAt m c w k) (n : ℕ) :
    ∀ (hn : n < cfg0.N) (d), k < n % 7 → (dats m 0 c).before w ⟨n, hn⟩ d = (dats m 0 c).after w ⟨n, hn⟩ := by
  induction n with
  | zero => intro hn d hk; exact absurd hk (by simp)
  | succ n ih =>
    intro hn d hk
    have hn' : n < cfg0.N := Nat.lt_of_succ_lt hn
    have hs : (dats m 0 c).after w ⟨n, hn'⟩ = (dats m 0 c).after w ⟨n + 1, hn⟩ := h.same _ _ (by show n / 7 = (n + 1) / 7; omega)
    refine ((dats m 0 c).before_of_pos w ⟨n + 1, hn⟩ (Nat.succ_ne_zero n) (h.fetch _) d).trans ?_
    have hf : (cfg0.win w).flush ⟨n, hn'⟩ ≠ true := fun e => by have e' : n % 7 = 6 := (h.flush ⟨n, hn'⟩).mp e; omega
    refine (if_neg hf).trans (Eq.trans ?_ hs)
    show (dats m 0 c).left w ⟨n, hn'⟩ d = _
    unfold Dat.left
    by_cases hi : n % 7 = k
    · have e : cfg0.idle w (cfg0.grid.coords ⟨n, hn'⟩) = false := by
        rw [← Bool.not_eq_true]; exact fun e => (h.idle _).mp e hi
      rw [e]
      exact h.kept _ _
    · rw [(h.idle ⟨n, hn'⟩).mpr hi]
      exact ih hn' d (by omega)

/-- What the body owes of a result's buffer. -/
theorem StoredAt.leaves {c : Dev nD} {w : Fin cfg0.W} {k : ℕ} (h : StoredAt m c w k) (hk : k < 7) (t : Fin cfg0.N) (d) :
    owns (c : Thread nD τ) ((cfg0.win w).stage (cfg0.slots t w)) fullShare (if t.val % 7 = k then (dats m 0 c).after w t else (dats m 0 c).before w t d)
      ⊢ (dats m 0 c).leavesExact w t := by
  by_cases hi : t.val % 7 = k
  · have e : cfg0.idle w (cfg0.grid.coords t) = false := by
      rw [← Bool.not_eq_true]; exact fun e => (h.idle _).mp e hi
    rw [if_pos hi]
    unfold Dat.leavesExact
    rw [e]
  · rw [if_neg hi]
    have e := (h.idle t).mpr hi
    by_cases hf : (cfg0.win w).flush t = true
    · have e6 := (h.flush t).mp hf
      rw [h.found m t.val t.isLt d (by omega)]
      unfold Dat.leavesExact
      rw [e, hf]
    · rw [Dat.leavesExact_idle _ w t e (by simpa using hf)]
      iintro H
      iexists d
      iexact H

theorem stored5 (c : Dev nD) : StoredAt m c 5 0 where
  fetch := fun _ => rfl
  flush := flush0_5
  idle := fun t => by
    show (!(k0_cond2 (grid0.coords t) == 1#1)) = true ↔ _
    simp [(atPoint t).c2]
  kept := fun _ _ => rfl
  same := fun t t' h => by rw [after5, after5, scr_congr m c h, pt_congr h]

theorem stored6 (c : Dev nD) : StoredAt m c 6 1 where
  fetch := fun _ => rfl
  flush := flush0_6
  idle := fun t => by
    show (!(k0_cond3 (grid0.coords t) == 1#1)) = true ↔ _
    simp [(atPoint t).c3]
  kept := fun _ _ => rfl
  same := fun t t' h => by rw [after6, after6, scr_congr m c h, pt_congr h]

theorem stored7 (c : Dev nD) : StoredAt m c 7 2 where
  fetch := fun _ => rfl
  flush := flush0_7
  idle := fun t => by
    show (!(k0_cond4 (grid0.coords t) == 1#1)) = true ↔ _
    simp [(atPoint t).c4]
  kept := fun _ _ => rfl
  same := fun t t' h => by rw [after7, after7, scr_congr m c h, pt_congr h]

theorem stored8 (c : Dev nD) : StoredAt m c 8 3 where
  fetch := fun _ => rfl
  flush := flush0_8
  idle := fun t => by
    show (!(k0_cond5 (grid0.coords t) == 1#1)) = true ↔ _
    simp [(atPoint t).c5]
  kept := fun _ _ => rfl
  same := fun t t' h => by rw [after8, after8, scr_congr m c h, pt_congr h]

theorem stored9 (c : Dev nD) : StoredAt m c 9 4 where
  fetch := fun _ => rfl
  flush := flush0_9
  idle := fun t => by
    show (!(k0_cond6 (grid0.coords t) == 1#1)) = true ↔ _
    simp [(atPoint t).c6]
  kept := fun _ _ => rfl
  same := fun t t' h => by rw [after9, after9, scr_congr m c h, pt_congr h]

theorem stored10 (c : Dev nD) : StoredAt m c 10 5 where
  fetch := fun _ => rfl
  flush := flush0_10
  idle := fun t => by
    show (!(k0_cond7 (grid0.coords t) == 1#1)) = true ↔ _
    simp [(atPoint t).c7]
  kept := fun _ _ => rfl
  same := fun t t' h => by rw [after10, after10, scr_congr m c h, pt_congr h]

theorem stored11 (c : Dev nD) : StoredAt m c 11 6 where
  fetch := fun _ => rfl
  flush := flush0_11
  idle := fun t => by
    show (!(k0_cond8 (grid0.coords t) == 1#1)) = true ↔ _
    simp [(atPoint t).c8]
  kept := fun _ _ => rfl
  same := fun t t' h => by rw [after11, after11, scr_congr m c h, pt_congr h]

theorem stored12 (c : Dev nD) : StoredAt m c 12 0 where
  fetch := fun _ => rfl
  flush := flush0_12
  idle := fun t => by
    show (!(k0_cond1 (grid0.coords t) == 1#1)) = true ↔ _
    simp [(atPoint t).c1]
  kept := fun _ _ => rfl
  same := fun t t' h => by rw [after12, after12, scr_congr m c h, pt_congr h]

/-- The buffers of a point. -/
abbrev bufs (t : Fin cfg0.N) : Bufs where
  x := win0_0.stage (cfg0.slots t 0)
  hx := hstage0_0 ((cfg0.slots t 0).cast nbuf0_0)
  md := win0_1.stage (cfg0.slots t 1)
  hmd := hstage0_1 ((cfg0.slots t 1).cast nbuf0_1)
  nw := win0_2.stage (cfg0.slots t 2)
  hnw := hstage0_2 ((cfg0.slots t 2).cast nbuf0_2)
  w := win0_3.stage (cfg0.slots t 3)
  hw := hstage0_3 ((cfg0.slots t 3).cast nbuf0_3)
  wg := win0_4.stage (cfg0.slots t 4)
  hwg := hstage0_4 ((cfg0.slots t 4).cast nbuf0_4)
  q := win0_5.stage (cfg0.slots t 5)
  hq := hstage0_5 ((cfg0.slots t 5).cast nbuf0_5)
  k := win0_6.stage (cfg0.slots t 6)
  hk := hstage0_6 ((cfg0.slots t 6).cast nbuf0_6)
  v := win0_7.stage (cfg0.slots t 7)
  hv := hstage0_7 ((cfg0.slots t 7).cast nbuf0_7)
  dq := win0_8.stage (cfg0.slots t 8)
  hdq := hstage0_8 ((cfg0.slots t 8).cast nbuf0_8)
  dk := win0_9.stage (cfg0.slots t 9)
  hdk := hstage0_9 ((cfg0.slots t 9).cast nbuf0_9)
  dv := win0_10.stage (cfg0.slots t 10)
  hdv := hstage0_10 ((cfg0.slots t 10).cast nbuf0_10)
  z := win0_11.stage (cfg0.slots t 11)
  hz := hstage0_11 ((cfg0.slots t 11).cast nbuf0_11)
  g := win0_12.stage (cfg0.slots t 12)
  hg := hstage0_12 ((cfg0.slots t 12).cast nbuf0_12)
  s := scMem
  hs := Memref.isWhole_whole _

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- What a point finds: its blocks, the results' buffers and the scratch at what they hold. -/
def found (c : Dev nD) (t : Fin cfg0.N) (d5 : Vec F S1x8x512x128 .bf16) (d6 : Vec F S1x8x512x128 .bf16) (d7 : Vec F S1x8x512x128 .bf16) (d8 : Vec F S1x512x1024 .bf16) (d9 : Vec F S1x512x1024 .bf16) (d10 : Vec F S1x512x1024 .bf16) (d11 : Vec F S1x512x1024 .bf16) (d12 : Vec F S1x512x128 .f32) (s : Vec F S512x2048 .bf16) : Held F where
  x := iblk m c 0 t
  md := iblk m c 1 t
  nw := iblk m c 2 t
  w := iblk m c 3 t
  wg := iblk m c 4 t
  q := (dats m 0 c).before 5 t d5
  k := (dats m 0 c).before 6 t d6
  v := (dats m 0 c).before 7 t d7
  dq := (dats m 0 c).before 8 t d8
  dk := (dats m 0 c).before 9 t d9
  dv := (dats m 0 c).before 10 t d10
  z := (dats m 0 c).before 11 t d11
  g := (dats m 0 c).before 12 t d12
  s := s

theorem next_s (c : Dev nD) (t : Fin cfg0.N) (d5 d6 d7 d8 d9 d10 d11 d12 s) (hs : t.val % 7 ≠ 0 → s = scr m c t) :
    (next (t.val % 7) (found m c t d5 d6 d7 d8 d9 d10 d11 d12 s)).s = scr m c t := by
  show (if t.val % 7 = 0 then rows (iblk m c 0 t) (iblk m c 1 t) (iblk m c 2 t) else s) = scr m c t
  by_cases h : t.val % 7 = 0
  · rw [if_pos h]; unfold scr; rw [pt_self t 0 h]
  · rw [if_neg h, hs h]
theorem next_q (c : Dev nD) (t : Fin cfg0.N) (d5 d6 d7 d8 d9 d10 d11 d12 s) (hs : t.val % 7 ≠ 0 → s = scr m c t) :
    (next (t.val % 7) (found m c t d5 d6 d7 d8 d9 d10 d11 d12 s)).q = if t.val % 7 = 0 then (dats m 0 c).after 5 t else (dats m 0 c).before 5 t d5 := by
  show (if t.val % 7 = 0 then queries (rows (iblk m c 0 t) (iblk m c 1 t) (iblk m c 2 t)) (iblk m c 3 t) else (dats m 0 c).before 5 t d5) = _
  by_cases h : t.val % 7 = 0
  · rw [if_pos h, if_pos h, after5]; unfold scr; rw [pt_self t 0 h]
  · rw [if_neg h, if_neg h]

theorem next_k (c : Dev nD) (t : Fin cfg0.N) (d5 d6 d7 d8 d9 d10 d11 d12 s) (hs : t.val % 7 ≠ 0 → s = scr m c t) :
    (next (t.val % 7) (found m c t d5 d6 d7 d8 d9 d10 d11 d12 s)).k = if t.val % 7 = 1 then (dats m 0 c).after 6 t else (dats m 0 c).before 6 t d6 := by
  show (if t.val % 7 = 1 then keys s (iblk m c 3 t) else (dats m 0 c).before 6 t d6) = _
  by_cases h : t.val % 7 = 1
  · rw [if_pos h, if_pos h, after6, hs (by omega), pt_self t 1 h]
  · rw [if_neg h, if_neg h]

theorem next_v (c : Dev nD) (t : Fin cfg0.N) (d5 d6 d7 d8 d9 d10 d11 d12 s) (hs : t.val % 7 ≠ 0 → s = scr m c t) :
    (next (t.val % 7) (found m c t d5 d6 d7 d8 d9 d10 d11 d12 s)).v = if t.val % 7 = 2 then (dats m 0 c).after 7 t else (dats m 0 c).before 7 t d7 := by
  show (if t.val % 7 = 2 then vals s (iblk m c 3 t) else (dats m 0 c).before 7 t d7) = _
  by_cases h : t.val % 7 = 2
  · rw [if_pos h, if_pos h, after7, hs (by omega), pt_self t 2 h]
  · rw [if_neg h, if_neg h]

theorem next_dq (c : Dev nD) (t : Fin cfg0.N) (d5 d6 d7 d8 d9 d10 d11 d12 s) (hs : t.val % 7 ≠ 0 → s = scr m c t) :
    (next (t.val % 7) (found m c t d5 d6 d7 d8 d9 d10 d11 d12 s)).dq = if t.val % 7 = 3 then (dats m 0 c).after 8 t else (dats m 0 c).before 8 t d8 := by
  show (if t.val % 7 = 3 then k0_pay32 s (iblk m c 3 t) else (dats m 0 c).before 8 t d8) = _
  by_cases h : t.val % 7 = 3
  · rw [if_pos h, if_pos h, after8, hs (by omega), pt_self t 3 h]
  · rw [if_neg h, if_neg h]

theorem next_dk (c : Dev nD) (t : Fin cfg0.N) (d5 d6 d7 d8 d9 d10 d11 d12 s) (hs : t.val % 7 ≠ 0 → s = scr m c t) :
    (next (t.val % 7) (found m c t d5 d6 d7 d8 d9 d10 d11 d12 s)).dk = if t.val % 7 = 4 then (dats m 0 c).after 9 t else (dats m 0 c).before 9 t d9 := by
  show (if t.val % 7 = 4 then k0_pay33 s (iblk m c 3 t) else (dats m 0 c).before 9 t d9) = _
  by_cases h : t.val % 7 = 4
  · rw [if_pos h, if_pos h, after9, hs (by omega), pt_self t 4 h]
  · rw [if_neg h, if_neg h]

theorem next_dv (c : Dev nD) (t : Fin cfg0.N) (d5 d6 d7 d8 d9 d10 d11 d12 s) (hs : t.val % 7 ≠ 0 → s = scr m c t) :
    (next (t.val % 7) (found m c t d5 d6 d7 d8 d9 d10 d11 d12 s)).dv = if t.val % 7 = 5 then (dats m 0 c).after 10 t else (dats m 0 c).before 10 t d10 := by
  show (if t.val % 7 = 5 then k0_pay34 s (iblk m c 3 t) else (dats m 0 c).before 10 t d10) = _
  by_cases h : t.val % 7 = 5
  · rw [if_pos h, if_pos h, after10, hs (by omega), pt_self t 5 h]
  · rw [if_neg h, if_neg h]

theorem next_z (c : Dev nD) (t : Fin cfg0.N) (d5 d6 d7 d8 d9 d10 d11 d12 s) (hs : t.val % 7 ≠ 0 → s = scr m c t) :
    (next (t.val % 7) (found m c t d5 d6 d7 d8 d9 d10 d11 d12 s)).z = if t.val % 7 = 6 then (dats m 0 c).after 11 t else (dats m 0 c).before 11 t d11 := by
  show (if t.val % 7 = 6 then k0_pay35 s (iblk m c 3 t) else (dats m 0 c).before 11 t d11) = _
  by_cases h : t.val % 7 = 6
  · rw [if_pos h, if_pos h, after11, hs (by omega), pt_self t 6 h]
  · rw [if_neg h, if_neg h]

theorem next_g (c : Dev nD) (t : Fin cfg0.N) (d5 d6 d7 d8 d9 d10 d11 d12 s) (hs : t.val % 7 ≠ 0 → s = scr m c t) :
    (next (t.val % 7) (found m c t d5 d6 d7 d8 d9 d10 d11 d12 s)).g = if t.val % 7 = 0 then (dats m 0 c).after 12 t else (dats m 0 c).before 12 t d12 := by
  show (if t.val % 7 = 0 then gates (rows (iblk m c 0 t) (iblk m c 1 t) (iblk m c 2 t)) (iblk m c 4 t) else (dats m 0 c).before 12 t d12) = _
  by_cases h : t.val % 7 = 0
  · rw [if_pos h, if_pos h, after12]; unfold scr; rw [pt_self t 0 h]
  · rw [if_neg h, if_neg h]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4]
  rw [show (dats m 0 c).owesAt () t.succ = (dats m 0 c).owesAt () t.castSucc from rfl]
  rw [show (dats m 0 c).Φ t.succ = iprop(owns (c : Thread nD τ) scMem fullShare (scr m c t) ∗ ∃ r, prngReg c r) from rfl]
  rw [show (dats m 0 c).Φ t.castSucc = PhiS m c t.val (Nat.le_of_lt t.isLt) from rfl]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave HQ := (PhiS_open m c t) $$ HP
  icases HQ with ⟨%s, %hs, HS, Hg⟩
  iapply (run_any c (grid0.coords t) (t.val % 7) (Nat.mod_lt _ (by decide)) (atPoint t) (bufs t) (found m c t d5 d6 d7 d8 d9 d10 d11 d12 s) Set.univ _)
  unfold held
  rw [next_s m c t d5 d6 d7 d8 d9 d10 d11 d12 s hs, next_q m c t d5 d6 d7 d8 d9 d10 d11 d12 s hs, next_k m c t d5 d6 d7 d8 d9 d10 d11 d12 s hs, next_v m c t d5 d6 d7 d8 d9 d10 d11 d12 s hs, next_dq m c t d5 d6 d7 d8 d9 d10 d11 d12 s hs, next_dk m c t d5 d6 d7 d8 d9 d10 d11 d12 s hs, next_dv m c t d5 d6 d7 d8 d9 d10 d11 d12 s hs, next_z m c t d5 d6 d7 d8 d9 d10 d11 d12 s hs, next_g m c t d5 d6 d7 d8 d9 d10 d11 d12 s hs]
  isplitl [H0 H1 H2 H3 H4 H5 H6 H7 H8 H9 H10 H11 H12 HS]
  · isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    iexact HS
  iintro ⟨H0, H1, H2, H3, H4, H5, H6, H7, H8, H9, H10, H11, H12, HS⟩
  isplitl [HS Hg]
  · isplitl [HS]
    · iexact HS
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iapply ((stored5 m c).leaves m (by decide) t d5)
    iexact H5
  isplitl [H6]
  · iapply ((stored6 m c).leaves m (by decide) t d6)
    iexact H6
  isplitl [H7]
  · iapply ((stored7 m c).leaves m (by decide) t d7)
    iexact H7
  isplitl [H8]
  · iapply ((stored8 m c).leaves m (by decide) t d8)
    iexact H8
  isplitl [H9]
  · iapply ((stored9 m c).leaves m (by decide) t d9)
    iexact H9
  isplitl [H10]
  · iapply ((stored10 m c).leaves m (by decide) t d10)
    iexact H10
  isplitl [H11]
  · iapply ((stored11 m c).leaves m (by decide) t d11)
    iexact H11
  iapply ((stored12 m c).leaves m (by decide) t d12)
  iexact H12

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem phi_in (c : Dev nD) : Pipeline.ΦA spec0 c ⊢ (dats m 0 c).Φ 0 := by
  rw [show (dats m 0 c).Φ 0 = Pipeline.ΦA spec0 c from rfl]

theorem phi_out (c : Dev nD) : (dats m 0 c).Φ (Fin.last cfg0.N) ⊢ Pipeline.ΦA spec0 c := by
  have h : ∀ (n : ℕ) (hn : n ≤ cfg0.N), PhiS m c n hn ⊢ Pipeline.ΦA spec0 c := fun n hn => by
    cases n with
    | zero => exact .rfl
    | succ n =>
      rw [show PhiS m c (n + 1) hn = iprop(owns (c : Thread nD τ) scMem fullShare (scr m c ⟨n, hn⟩) ∗ ∃ r, prngReg c r) from rfl, PhiA0]
      iintro ⟨HS, Hg⟩
      isplitl [HS]
      · iexists _; iexact HS
      iexact Hg
  rw [show (dats m 0 c).Φ (Fin.last cfg0.N) = PhiS m c (Fin.last cfg0.N).val (Nat.le_of_lt_succ (Fin.last cfg0.N).isLt) from rfl]
  exact h _ _

set_option backward.isDefEq.respectTransparency.types false in
/-- Every run of the call ends, its arrays as the windows' contents say and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

theorem run_main : θ_run defs (onTc (τ := τ) (main (F := F))) (s₀ m ρ) (Pipeline.FramePost cfgs (dats m) 0 (V m)) :=
  (θ_run defs _ _).mono (fun _ h => h.1) (run_quiescent m ρ)

/-- The arguments end as they were, and every semaphore at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.Kernel5Ideal.InProj
-- ==== Proof.InMath.lean ====
module

public import proofs.«01_k».proof.Proof.InDefs
public import proofs.«01_k».proof.Proof.FfnMath

/-! The mixer's input projections on extended reals: the kernel's payloads read at an index. -/

@[expose] public section

set_option maxRecDepth 16384

noncomputable section

namespace Cert.Kernel5Ideal.InProj

open Cert.Kernel5Ideal Cert.Kernel5Ideal.Gen Idealize.ShloMosaic Cert.Ffn
open scoped BigOperators

/-- The factor the queries carry. -/
abbrev qscale : EReal := Ideal.ofBits .f32 0x3E0293EE#32

/-- Entry `v` of head `h` in a row of heads. -/
abbrev inHead (h : Fin 8) (v : Fin 128) : Fin 1024 := ⟨128 * h.val + v.val, by omega⟩

/-- The padding's zero. -/
theorem sitofp_zero : (FloatOps.sitofp (F := Ideal) FTy.f32 (0#32) : EReal) = 0 := by
  show ((((0#32 : BitVec 32).toInt : ℝ)) : EReal) = 0
  simp

theorem pay1_apply (sh sc : Vec Ideal S1x1x2048 .f32) (x : Vec Ideal S1x512x2048 .f32) (nw : Vec Ideal S1x2048 .f32) (r : Fin 512) (k : Fin 2048) :
    k0_pay1 (F := Ideal) sh sc x nw (ix2 r k)
      = normed (fun k => x (ix3 0 r k)) (fun k => nw (ix2 0 k)) (fun k => sc (ix3 0 0 k)) (fun k => sh (ix3 0 0 k)) k := by
  unfold k0_pay1 normed rms
  pointwise

theorem ld_row (x : Vec Ideal S1x9x2048 .f32) (j : ℕ) (hj : j < 9) (inb) (k : Fin 2048) :
    (View.ld x (Rect.unit (s := S1x9x2048) ![0, j, 0] S1x1x2048.size inb) : Vec Ideal S1x1x2048 .f32) (ix3 0 0 k) = x (ix3 0 ⟨j, hj⟩ k) := by
  refine View.ld_unit_apply_of x _ _ inb (ix3 0 0 k) (ix3 0 ⟨j, hj⟩ k) ?_
  intro a
  fin_cases a <;> simp [ix3]

/-- The rows the body projects. -/
theorem rows_apply (x : Vec Ideal S1x512x2048 .f32) (md : Vec Ideal S1x9x2048 .f32) (nw : Vec Ideal S1x2048 .f32) (r : Fin 512) (k : Fin 2048) :
    rows (F := Ideal) x md nw (ix2 r k)
      = normed (fun k => x (ix3 0 r k)) (fun k => nw (ix2 0 k)) (fun k => md (ix3 0 4 k)) (fun k => md (ix3 0 3 k)) k := by
  refine (pay1_apply _ _ x nw r k).trans ?_
  refine congrArg₂ (fun a b => normed _ _ a b k) (funext fun k => ld_row md 4 (by decide) _ k) (funext fun k => ld_row md 3 (by decide) _ k)

/-- One entry of the rows times a tile of weights. -/
def tile (s : Vec Ideal S512x2048 .bf16) (w : Vec Ideal S2048x1024 .bf16) (r : Fin 512) (n : Fin 1024) : EReal :=
  ∑ k : Fin 2048, s (ix2 r k) * w (ix2 k n)

theorem pay2_apply (s : Vec Ideal S512x2048 .bf16) (w : Vec Ideal S2048x128 .bf16) (r : Fin 512) (n : Fin 128) :
    k0_pay2 (F := Ideal) s w (ix2 r n) = ∑ k : Fin 2048, s (ix2 r k) * w (ix2 k n) := by
  unfold k0_pay2
  pointwise

theorem gates_apply (s : Vec Ideal S512x2048 .bf16) (w : Vec Ideal S2048x128 .bf16) (r : Fin 512) (n : Fin 128) :
    gates (F := Ideal) s w (ix3 0 r n) = ∑ k : Fin 2048, s (ix2 r k) * w (ix2 k n) := by
  refine Eq.trans ?_ (pay2_apply s w r n)
  unfold gates k0_pay18
  pointwise

theorem pay19_apply (s : Vec Ideal S512x2048 .bf16) (w : Vec Ideal S2048x1024 .bf16) (r : Fin 512) (n : Fin 1024) :
    k0_pay19 (F := Ideal) s w (ix2 r n) = tile s w r n := by
  unfold k0_pay19 tile
  pointwise

theorem pay32_apply (s : Vec Ideal S512x2048 .bf16) (w : Vec Ideal S2048x1024 .bf16) (r : Fin 512) (n : Fin 1024) :
    k0_pay32 (F := Ideal) s w (ix3 0 r n) = tile s w r n := by
  unfold k0_pay32
  pointwise
  exact pay19_apply s w r n

theorem pay33_apply (s : Vec Ideal S512x2048 .bf16) (w : Vec Ideal S2048x1024 .bf16) (r : Fin 512) (n : Fin 1024) :
    k0_pay33 (F := Ideal) s w (ix3 0 r n) = tile s w r n := by
  unfold k0_pay33
  pointwise
  exact pay19_apply s w r n

theorem pay34_apply (s : Vec Ideal S512x2048 .bf16) (w : Vec Ideal S2048x1024 .bf16) (r : Fin 512) (n : Fin 1024) :
    k0_pay34 (F := Ideal) s w (ix3 0 r n) = tile s w r n := by
  unfold k0_pay34
  pointwise
  exact pay19_apply s w r n

theorem pay35_apply (s : Vec Ideal S512x2048 .bf16) (w : Vec Ideal S2048x1024 .bf16) (r : Fin 512) (n : Fin 1024) :
    k0_pay35 (F := Ideal) s w (ix3 0 r n) = tile s w r n := by
  unfold k0_pay35
  pointwise
  exact pay19_apply s w r n

theorem pay3_apply (y : FVec Ideal S512x1024 .f32) (r : Fin 512) (v : Fin 128) :
    k0_pay3 (F := Ideal) y (ix4 0 0 r v) = y (ix2 r (inHead 0 v)) * qscale := by
  unfold k0_pay3
  pointwise
  exact congrArg (fun n => y (ix2 r n) * qscale) (Fin.ext (by show v.val = 128 * 0 + v.val; omega))

theorem pay4_apply (y : FVec Ideal S512x1024 .f32) (r : Fin 512) (v : Fin 128) :
    k0_pay4 (F := Ideal) y (ix4 0 0 r v) = y (ix2 r (inHead 1 v)) * qscale := by
  unfold k0_pay4
  pointwise
  exact congrArg (fun n => y (ix2 r n) * qscale) (Fin.ext (by show 128 + v.val = 128 * 1 + v.val; omega))

theorem pay5_apply (y : FVec Ideal S512x1024 .f32) (r : Fin 512) (v : Fin 128) :
    k0_pay5 (F := Ideal) y (ix4 0 0 r v) = y (ix2 r (inHead 2 v)) * qscale := by
  unfold k0_pay5
  pointwise
  exact congrArg (fun n => y (ix2 r n) * qscale) (Fin.ext (by show 256 + v.val = 128 * 2 + v.val; omega))

theorem pay6_apply (y : FVec Ideal S512x1024 .f32) (r : Fin 512) (v : Fin 128) :
    k0_pay6 (F := Ideal) y (ix4 0 0 r v) = y (ix2 r (inHead 3 v)) * qscale := by
  unfold k0_pay6
  pointwise
  exact congrArg (fun n => y (ix2 r n) * qscale) (Fin.ext (by show 384 + v.val = 128 * 3 + v.val; omega))

theorem pay20_apply (y : FVec Ideal S512x1024 .f32) (r : Fin 512) (v : Fin 128) :
    k0_pay20 (F := Ideal) (k0_pay7 y) (ix4 0 0 r v) = y (ix2 r (inHead 4 v)) * qscale := by
  unfold k0_pay20 k0_pay7
  pointwise
  exact congrArg (fun n => y (ix2 r n) * qscale) (Fin.ext (by show 512 + v.val = 128 * 4 + v.val; omega))

theorem pay21_apply (s : Vec Ideal S512x2048 .bf16) (w : Vec Ideal S2048x1024 .bf16) (r : Fin 512) (v : Fin 128) :
    k0_pay21 (F := Ideal) s w (ix4 0 0 r v) = tile s w r (inHead 5 v) * qscale := by
  unfold k0_pay21
  pointwise
  exact congrArg (fun y => y * qscale) ((pay19_apply s w r _).trans (congrArg (tile s w r) (Fin.ext (by show 640 + v.val = 128 * 5 + v.val; omega))))

theorem pay22_apply (s : Vec Ideal S512x2048 .bf16) (w : Vec Ideal S2048x1024 .bf16) (r : Fin 512) (v : Fin 128) :
    k0_pay22 (F := Ideal) s w (ix4 0 0 r v) = tile s w r (inHead 6 v) * qscale := by
  unfold k0_pay22
  pointwise
  exact congrArg (fun y => y * qscale) ((pay19_apply s w r _).trans (congrArg (tile s w r) (Fin.ext (by show 768 + v.val = 128 * 6 + v.val; omega))))

theorem pay23_apply (s : Vec Ideal S512x2048 .bf16) (w : Vec Ideal S2048x1024 .bf16) (r : Fin 512) (v : Fin 128) :
    k0_pay23 (F := Ideal) s w (ix4 0 0 r v) = tile s w r (inHead 7 v) * qscale := by
  unfold k0_pay23
  pointwise
  exact congrArg (fun y => y * qscale) ((pay19_apply s w r _).trans (congrArg (tile s w r) (Fin.ext (by show 896 + v.val = 128 * 7 + v.val; omega))))

theorem queries_apply (s : Vec Ideal S512x2048 .bf16) (w : Vec Ideal S2048x1024 .bf16) (h : Fin 8) (r : Fin 512) (v : Fin 128) :
    queries (F := Ideal) s w (ix4 0 h r v) = tile s w r (inHead h v) * qscale := by
  fin_cases h
  · exact (pay3_apply _ r v).trans (congrArg (fun y => y * qscale) (pay19_apply s w r _))
  · exact (pay4_apply _ r v).trans (congrArg (fun y => y * qscale) (pay19_apply s w r _))
  · exact (pay5_apply _ r v).trans (congrArg (fun y => y * qscale) (pay19_apply s w r _))
  · exact (pay6_apply _ r v).trans (congrArg (fun y => y * qscale) (pay19_apply s w r _))
  · exact (pay20_apply _ r v).trans (congrArg (fun y => y * qscale) (pay19_apply s w r _))
  · exact pay21_apply s w r v
  · exact pay22_apply s w r v
  · exact pay23_apply s w r v

theorem pay8_apply (y : FVec Ideal S512x1024 .f32) (r : Fin 512) (v : Fin 128) :
    k0_pay8 (F := Ideal) y (ix4 0 0 r v) = y (ix2 r (inHead 0 v)) := by
  unfold k0_pay8
  pointwise
  exact congrArg (fun n => y (ix2 r n)) (Fin.ext (by show v.val = 128 * 0 + v.val; omega))

theorem pay9_apply (y : FVec Ideal S512x1024 .f32) (r : Fin 512) (v : Fin 128) :
    k0_pay9 (F := Ideal) y (ix4 0 0 r v) = y (ix2 r (inHead 1 v)) := by
  unfold k0_pay9
  pointwise
  exact congrArg (fun n => y (ix2 r n)) (Fin.ext (by show 128 + v.val = 128 * 1 + v.val; omega))

theorem pay10_apply (y : FVec Ideal S512x1024 .f32) (r : Fin 512) (v : Fin 128) :
    k0_pay10 (F := Ideal) y (ix4 0 0 r v) = y (ix2 r (inHead 2 v)) := by
  unfold k0_pay10
  pointwise
  exact congrArg (fun n => y (ix2 r n)) (Fin.ext (by show 256 + v.val = 128 * 2 + v.val; omega))

theorem pay11_apply (y : FVec Ideal S512x1024 .f32) (r : Fin 512) (v : Fin 128) :
    k0_pay11 (F := Ideal) y (ix4 0 0 r v) = y (ix2 r (inHead 3 v)) := by
  unfold k0_pay11
  pointwise
  exact congrArg (fun n => y (ix2 r n)) (Fin.ext (by show 384 + v.val = 128 * 3 + v.val; omega))

theorem pay24_apply (y : FVec Ideal S512x1024 .f32) (r : Fin 512) (v : Fin 128) :
    k0_pay24 (F := Ideal) (k0_pay12 y) (ix4 0 0 r v) = y (ix2 r (inHead 4 v)) := by
  unfold k0_pay24 k0_pay12
  pointwise
  exact congrArg (fun n => y (ix2 r n)) (Fin.ext (by show 512 + v.val = 128 * 4 + v.val; omega))

theorem pay25_apply (s : Vec Ideal S512x2048 .bf16) (w : Vec Ideal S2048x1024 .bf16) (r : Fin 512) (v : Fin 128) :
    k0_pay25 (F := Ideal) s w (ix4 0 0 r v) = tile s w r (inHead 5 v) := by
  unfold k0_pay25
  pointwise
  exact ((pay19_apply s w r _).trans (congrArg (tile s w r) (Fin.ext (by show 640 + v.val = 128 * 5 + v.val; omega))))

theorem pay26_apply (s : Vec Ideal S512x2048 .bf16) (w : Vec Ideal S2048x1024 .bf16) (r : Fin 512) (v : Fin 128) :
    k0_pay26 (F := Ideal) s w (ix4 0 0 r v) = tile s w r (inHead 6 v) := by
  unfold k0_pay26
  pointwise
  exact ((pay19_apply s w r _).trans (congrArg (tile s w r) (Fin.ext (by show 768 + v.val = 128 * 6 + v.val; omega))))

theorem pay27_apply (s : Vec Ideal S512x2048 .bf16) (w : Vec Ideal S2048x1024 .bf16) (r : Fin 512) (v : Fin 128) :
    k0_pay27 (F := Ideal) s w (ix4 0 0 r v) = tile s w r (inHead 7 v) := by
  unfold k0_pay27
  pointwise
  exact ((pay19_apply s w r _).trans (congrArg (tile s w r) (Fin.ext (by show 896 + v.val = 128 * 7 + v.val; omega))))

theorem keys_apply (s : Vec Ideal S512x2048 .bf16) (w : Vec Ideal S2048x1024 .bf16) (h : Fin 8) (r : Fin 512) (v : Fin 128) :
    keys (F := Ideal) s w (ix4 0 h r v) = tile s w r (inHead h v) := by
  fin_cases h
  · exact (pay8_apply _ r v).trans (pay19_apply s w r _)
  · exact (pay9_apply _ r v).trans (pay19_apply s w r _)
  · exact (pay10_apply _ r v).trans (pay19_apply s w r _)
  · exact (pay11_apply _ r v).trans (pay19_apply s w r _)
  · exact (pay24_apply _ r v).trans (pay19_apply s w r _)
  · exact pay25_apply s w r v
  · exact pay26_apply s w r v
  · exact pay27_apply s w r v

theorem pay13_apply (y : FVec Ideal S512x1024 .f32) (r : Fin 512) (v : Fin 128) :
    k0_pay13 (F := Ideal) y (ix4 0 0 r v) = y (ix2 r (inHead 0 v)) := by
  unfold k0_pay13
  pointwise
  exact congrArg (fun n => y (ix2 r n)) (Fin.ext (by show v.val = 128 * 0 + v.val; omega))

theorem pay14_apply (y : FVec Ideal S512x1024 .f32) (r : Fin 512) (v : Fin 128) :
    k0_pay14 (F := Ideal) y (ix4 0 0 r v) = y (ix2 r (inHead 1 v)) := by
  unfold k0_pay14
  pointwise
  exact congrArg (fun n => y (ix2 r n)) (Fin.ext (by show 128 + v.val = 128 * 1 + v.val; omega))

theorem pay15_apply (y : FVec Ideal S512x1024 .f32) (r : Fin 512) (v : Fin 128) :
    k0_pay15 (F := Ideal) y (ix4 0 0 r v) = y (ix2 r (inHead 2 v)) := by
  unfold k0_pay15
  pointwise
  exact congrArg (fun n => y (ix2 r n)) (Fin.ext (by show 256 + v.val = 128 * 2 + v.val; omega))

theorem pay16_apply (y : FVec Ideal S512x1024 .f32) (r : Fin 512) (v : Fin 128) :
    k0_pay16 (F := Ideal) y (ix4 0 0 r v) = y (ix2 r (inHead 3 v)) := by
  unfold k0_pay16
  pointwise
  exact congrArg (fun n => y (ix2 r n)) (Fin.ext (by show 384 + v.val = 128 * 3 + v.val; omega))

theorem pay28_apply (y : FVec Ideal S512x1024 .f32) (r : Fin 512) (v : Fin 128) :
    k0_pay28 (F := Ideal) (k0_pay17 y) (ix4 0 0 r v) = y (ix2 r (inHead 4 v)) := by
  unfold k0_pay28 k0_pay17
  pointwise
  exact congrArg (fun n => y (ix2 r n)) (Fin.ext (by show 512 + v.val = 128 * 4 + v.val; omega))

theorem pay29_apply (s : Vec Ideal S512x2048 .bf16) (w : Vec Ideal S2048x1024 .bf16) (r : Fin 512) (v : Fin 128) :
    k0_pay29 (F := Ideal) s w (ix4 0 0 r v) = tile s w r (inHead 5 v) := by
  unfold k0_pay29
  pointwise
  exact ((pay19_apply s w r _).trans (congrArg (tile s w r) (Fin.ext (by show 640 + v.val = 128 * 5 + v.val; omega))))

theorem pay30_apply (s : Vec Ideal S512x2048 .bf16) (w : Vec Ideal S2048x1024 .bf16) (r : Fin 512) (v : Fin 128) :
    k0_pay30 (F := Ideal) s w (ix4 0 0 r v) = tile s w r (inHead 6 v) := by
  unfold k0_pay30
  pointwise
  exact ((pay19_apply s w r _).trans (congrArg (tile s w r) (Fin.ext (by show 768 + v.val = 128 * 6 + v.val; omega))))

theorem pay31_apply (s : Vec Ideal S512x2048 .bf16) (w : Vec Ideal S2048x1024 .bf16) (r : Fin 512) (v : Fin 128) :
    k0_pay31 (F := Ideal) s w (ix4 0 0 r v) = tile s w r (inHead 7 v) := by
  unfold k0_pay31
  pointwise
  exact ((pay19_apply s w r _).trans (congrArg (tile s w r) (Fin.ext (by show 896 + v.val = 128 * 7 + v.val; omega))))

theorem vals_apply (s : Vec Ideal S512x2048 .bf16) (w : Vec Ideal S2048x1024 .bf16) (h : Fin 8) (r : Fin 512) (v : Fin 128) :
    vals (F := Ideal) s w (ix4 0 h r v) = tile s w r (inHead h v) := by
  fin_cases h
  · exact (pay13_apply _ r v).trans (pay19_apply s w r _)
  · exact (pay14_apply _ r v).trans (pay19_apply s w r _)
  · exact (pay15_apply _ r v).trans (pay19_apply s w r _)
  · exact (pay16_apply _ r v).trans (pay19_apply s w r _)
  · exact (pay28_apply _ r v).trans (pay19_apply s w r _)
  · exact pay29_apply s w r v
  · exact pay30_apply s w r v
  · exact pay31_apply s w r v

end Cert.Kernel5Ideal.InProj
-- ==== Proof.InPoints.lean ====
module

public import proofs.«01_k».proof.Proof.InFrame
public import proofs.«01_k».proof.Proof.InMath
public import Idealize.ShloMosaic.Lib.Pipeline.ValueKit
public import Idealize.ShloMosaic.Lib.Pipeline.ReadBack
public import Idealize.ShloMosaic.Lib.Pipeline.Value

/-! The input projections' kernel, point by point: its blocks as parts of the arguments, and its eight results. -/

@[expose] public section

set_option maxRecDepth 16384

noncomputable section

namespace Cert.Kernel5Ideal.InProj

open Cert.Kernel5Ideal Cert.Kernel5Ideal.Gen Idealize.ShloMosaic Idealize.ShloMosaic.TcCoe Cert.Ffn
open scoped BigOperators

variable (m : (ℓ : Loc nD τ sig) → Buf (Elt Ideal) ℓ) (c : Dev nD)

/-- The arguments' arrays. -/
abbrev aX : Vec Ideal S2x16384x2048 .f32 := m ((c.tc : Thread nD τ).loc main_arg0)
abbrev aM : Vec Ideal S2x18432 .f32 := m ((c.tc : Thread nD τ).loc main_arg1)
abbrev aN : Vec Ideal S2048 .f32 := m ((c.tc : Thread nD τ).loc main_arg2)
abbrev aW : Vec Ideal S2048x7200 .f32 := m ((c.tc : Thread nD τ).loc main_arg3)

theorem V0 : (V m c main_v0 : Vec Ideal S2x9x2048 .f32) = shapeCast S2x9x2048 (aM m c) shapeCasts_S2x18432_S2x9x2048 := by
  dsimp only [V, hostOps0, hostOps0_1, hostOps0_2, List.flatten_cons, List.flatten_nil, List.append_nil, List.cons_append, List.nil_append]; after_results_simp; rfl
theorem V2 : (V m c main_v2 : Vec Ideal S2048x7168 .bf16) = extractStridedSlice S2048x7168 ![0, 0] (aW m c) slices_S2048x7200_S2048x7168_0_0 := by
  dsimp only [V, hostOps0, hostOps0_1, hostOps0_2, List.flatten_cons, List.flatten_nil, List.append_nil, List.cons_append, List.nil_append]; after_results_simp; rfl
theorem V5 : (V m c main_v5 : Vec Ideal S2048x128 .bf16) = (pad S2048x128 ![0, 0] ![0, 96] ![0, 0] (extractStridedSlice S2048x32 ![0, 7168] (aW m c) slices_S2048x7200_S2048x32_0_7168)
    (sitofp (F := Ideal) .f32 (constantI S_ 32 0#32)) pads_S2048x32_S2048x128_000_0960 h_S_ : FVec Ideal S2048x128 .f32) := by
  dsimp only [V, hostOps0, hostOps0_1, hostOps0_2, List.flatten_cons, List.flatten_nil, List.append_nil, List.cons_append, List.nil_append]; after_results_simp; rfl
theorem V6 : (V m c main_v6 : Vec Ideal S1x2048 .f32) = shapeCast S1x2048 (aN m c) shapeCasts_S2048_S1x2048 := by
  dsimp only [V, hostOps0, hostOps0_1, hostOps0_2, List.flatten_cons, List.flatten_nil, List.append_nil, List.cons_append, List.nil_append]; after_results_simp; rfl

theorem e0 : ∀ t : Fin cfg0.N, win0_0.index t = ![t.val / 224, t.val / 7 % 32, 0] := (by decide +kernel : ∀ t : Fin grid0.N, _)
theorem e1 : ∀ t : Fin cfg0.N, win0_1.index t = ![t.val / 224, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, t.val % 7] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val / 224, 0, t.val / 7 % 32, 0] := (by decide +kernel : ∀ t : Fin grid0.N, _)
theorem e6 : ∀ t : Fin cfg0.N, win0_6.index t = ![t.val / 224, 0, t.val / 7 % 32, 0] := (by decide +kernel : ∀ t : Fin grid0.N, _)
theorem e7 : ∀ t : Fin cfg0.N, win0_7.index t = ![t.val / 224, 0, t.val / 7 % 32, 0] := (by decide +kernel : ∀ t : Fin grid0.N, _)
theorem e8 : ∀ t : Fin cfg0.N, win0_8.index t = ![t.val / 224, t.val / 7 % 32, 0] := (by decide +kernel : ∀ t : Fin grid0.N, _)
theorem e9 : ∀ t : Fin cfg0.N, win0_9.index t = ![t.val / 224, t.val / 7 % 32, 0] := (by decide +kernel : ∀ t : Fin grid0.N, _)
theorem e10 : ∀ t : Fin cfg0.N, win0_10.index t = ![t.val / 224, t.val / 7 % 32, 0] := (by decide +kernel : ∀ t : Fin grid0.N, _)
theorem e11 : ∀ t : Fin cfg0.N, win0_11.index t = ![t.val / 224, t.val / 7 % 32, 0] := (by decide +kernel : ∀ t : Fin grid0.N, _)
theorem e12 : ∀ t : Fin cfg0.N, win0_12.index t = ![t.val / 224, t.val / 7 % 32, 0] := (by decide +kernel : ∀ t : Fin grid0.N, _)

theorem lt448 (t : Fin cfg0.N) : t.val < 448 := Nat.lt_of_lt_of_eq t.isLt N_0

/-- The batch row and the sequence row of point `t`'s block row `r`. -/
def bOf (t : Fin cfg0.N) : Fin 2 := ⟨t.val / 224, by have := lt448 t; omega⟩
def sOf (t : Fin cfg0.N) (r : Fin 512) : Fin 16384 := ⟨512 * (t.val / 7 % 32) + r.val, by omega⟩

theorem iblk0 (t : Fin cfg0.N) (r : Fin 512) (k : Fin 2048) :
    (iblk m c 0 t : Vec Ideal S1x512x2048 .f32) (ix3 0 r k) = aX m c (ix3 (bOf t) (sOf t r) k) := by
  blk_simp [iblk]
  rw [V_main_arg0]
  blk_ext [e0, bOf, sOf]

theorem iblk1 (t : Fin cfg0.N) (j : Fin 9) (k : Fin 2048) :
    (iblk m c 1 t : Vec Ideal S1x9x2048 .f32) (ix3 0 j k) = aM m c (ix2 (bOf t) ⟨2048 * j.val + k.val, by omega⟩) := by
  blk_simp [iblk]
  have h := congrFun (V0 m c) (ix3 (bOf t) j k)
  have e : ((win0_1.blk t).view.emb (ix3 0 j k) : S2x9x2048.Idx) = ix3 (bOf t) j k := by blk_ext [e1, bOf]
  rw [e]
  refine h.trans ?_
  refine (shapeCast_apply _ _ _ (ix2 (bOf t) ⟨2048 * j.val + k.val, by omega⟩) ?_).trans rfl
  simp only [Shape.rowMajor_val_two, Shape.rowMajor_val_three]
  show (bOf t).val * 18432 + (2048 * j.val + k.val) = ((bOf t).val * 9 + j.val) * 2048 + k.val
  omega

theorem iblk2 (t : Fin cfg0.N) (k : Fin 2048) :
    (iblk m c 2 t : Vec Ideal S1x2048 .f32) (ix2 0 k) = aN m c (ix1 k) := by
  blk_simp [iblk]
  have e : ((win0_2.blk t).view.emb (ix2 0 k) : S1x2048.Idx) = ix2 0 k := by blk_ext [e2]
  rw [e]
  refine (congrFun (V6 m c) (ix2 0 k)).trans ?_
  pointwise

theorem iblk3 (t : Fin cfg0.N) (j : ℕ) (hj : t.val % 7 = j) (hl : 1024 * j + 1024 ≤ 7168) (k : Fin 2048) (n : Fin 1024) :
    (iblk m c 3 t : Vec Ideal S2048x1024 .bf16) (ix2 k n) = aW m c (ix2 k ⟨1024 * j + n.val, by omega⟩) := by
  blk_simp [iblk]
  have e : ((win0_3.blk t).view.emb (ix2 k n) : S2048x7168.Idx) = ix2 k ⟨1024 * j + n.val, by omega⟩ := by
    subst hj
    blk_ext [e3]
  rw [e]
  refine (congrFun (V2 m c) (ix2 k ⟨1024 * j + n.val, by omega⟩)).trans ?_
  pointwise

theorem iblk4 (t : Fin cfg0.N) (k : Fin 2048) (n : Fin 128) :
    (iblk m c 4 t : Vec Ideal S2048x128 .bf16) (ix2 k n) = if h : n.val < 32 then aW m c (ix2 k ⟨7168 + n.val, by omega⟩) else 0 := by
  blk_simp [iblk]
  have e : ((win0_4.blk t).view.emb (ix2 k n) : S2048x128.Idx) = ix2 k n := by blk_ext [e4]
  rw [e]
  refine (congrFun (V5 m c) (ix2 k n)).trans ?_
  pointwise
  exact congrArg (fun z => if h : n.val < 32 then aW m c (ix2 k ⟨7168 + n.val, by omega⟩) else z) sitofp_zero

/-- The normalised, modulated row. -/
def hrow (b : Fin 2) (s : Fin 16384) : Fin 2048 → EReal :=
  normed (fun k => aX m c (ix3 b s k)) (fun k => aN m c (ix1 k)) (fun k => aM m c (ix2 b ⟨8192 + k.val, by omega⟩)) (fun k => aM m c (ix2 b ⟨6144 + k.val, by omega⟩))

/-- One entry of the row's projections. -/
def prow (b : Fin 2) (s : Fin 16384) (j : Fin 7200) : EReal := ∑ k : Fin 2048, hrow m c b s k * aW m c (ix2 k j)

/-- The last point of the row block that holds row `s`, and the row's place in the block. -/
def lastPt (b : Fin 2) (s : Fin 16384) : Fin cfg0.N :=
  ⟨7 * (32 * b.val + s.val / 512) + 6, Nat.lt_of_lt_of_eq (by omega : 7 * (32 * b.val + s.val / 512) + 6 < 448) N_0.symm⟩
def rowIn (s : Fin 16384) : Fin 512 := ⟨s.val % 512, Nat.mod_lt _ (by decide)⟩

theorem pt_last (b : Fin 2) (s : Fin 16384) (k : Fin 7) : (pt (lastPt b s) k).val = 7 * (32 * b.val + s.val / 512) + k.val := by
  show 7 * ((7 * (32 * b.val + s.val / 512) + 6) / 7) + k.val = _
  omega
theorem last_batch (b : Fin 2) (s : Fin 16384) : (lastPt b s).val / 224 = b.val := by
  show (7 * (32 * b.val + s.val / 512) + 6) / 224 = b.val
  omega
theorem last_rows (b : Fin 2) (s : Fin 16384) : (lastPt b s).val / 7 % 32 * 512 + (rowIn s).val = s.val := by
  show (7 * (32 * b.val + s.val / 512) + 6) / 7 % 32 * 512 + s.val % 512 = s.val
  omega
theorem last_mod (b : Fin 2) (s : Fin 16384) : (lastPt b s).val % 7 = 6 := by
  show (7 * (32 * b.val + s.val / 512) + 6) % 7 = 6
  omega
theorem bOf_pt (b : Fin 2) (s : Fin 16384) (k : Fin 7) : bOf (pt (lastPt b s) k) = b :=
  Fin.ext (by show (pt (lastPt b s) k).val / 224 = b.val; rw [pt_last]; omega)
theorem sOf_pt (b : Fin 2) (s : Fin 16384) (k : Fin 7) : sOf (pt (lastPt b s) k) (rowIn s) = s :=
  Fin.ext (by show 512 * ((pt (lastPt b s) k).val / 7 % 32) + s.val % 512 = s.val; rw [pt_last]; omega)
theorem mod_pt (b : Fin 2) (s : Fin 16384) (k : Fin 7) : (pt (lastPt b s) k).val % 7 = k.val := by
  rw [pt_last]; omega

theorem scr_apply (b : Fin 2) (s : Fin 16384) (k : Fin 2048) : (scr m c (lastPt b s) : Vec Ideal S512x2048 .bf16) (ix2 (rowIn s) k) = hrow m c b s k := by
  unfold scr hrow
  refine (rows_apply _ _ _ (rowIn s) k).trans ?_
  simp only [iblk0, iblk1, iblk2, bOf_pt, sOf_pt]
  rfl

theorem tile_apply (b : Fin 2) (s : Fin 16384) (j : Fin 7) (n : Fin 1024) :
    tile (scr m c (lastPt b s)) (iblk m c 3 (pt (lastPt b s) j)) (rowIn s) n = prow m c b s ⟨1024 * j.val + n.val, by omega⟩ := by
  unfold tile prow
  refine Finset.sum_congr rfl fun k _ => congrArg₂ (· * ·) (scr_apply m c b s k) ?_
  exact iblk3 m c _ j.val (mod_pt b s j) (by omega) k n

/-- A result's window: written back after the last point of a row block, to a block of its own. -/
structure Result (w : Fin cfg0.W) : Prop where
  blocked : (cfg0.win w).kind = Pipeline.WinKind.blocked
  flush : ∀ t : Fin cfg0.N, (cfg0.win w).flush t = true ↔ t.val % 7 = 6
  index : ∀ t t' : Fin cfg0.N, (cfg0.win w).index t = (cfg0.win w).index t' → t.val / 224 = t'.val / 224 ∧ t.val / 7 % 32 = t'.val / 7 % 32

/-- After the run a result holds, at each entry of a row block, what the row block's last point leaves. -/
theorem Result.at_last {w : Fin cfg0.W} (h : Result w) (b : Fin 2) (s : Fin 16384) (y) :
    ((cfg0.win w).blk (lastPt b s)).view.read (Elt Ideal) ((dats m 0 c).arrAt w cfg0.N) y = (dats m 0 c).flushed w (lastPt b s) y := by
  refine congrFun ((dats m 0 c).read_blk_arrAt_eq_flushed w (fun t t' hf hf' hne => (cfg0.win w).disjoint_blk (hk := h.blocked) fun e => hne (Fin.ext ?_))
    cfg0.N (lastPt b s) (lastPt b s).isLt ((h.flush _).mpr (last_mod b s))) y
  obtain ⟨hb, hs⟩ := h.index t t' e
  have := (h.flush t).mp hf
  have := (h.flush t').mp hf'
  omega

theorem result5 : Result 5 := ⟨rfl, flush0_5, fun t t' h => ⟨congrFun (((e5 t).symm.trans h).trans (e5 t')) 0, congrFun (((e5 t).symm.trans h).trans (e5 t')) 2⟩⟩
theorem result6 : Result 6 := ⟨rfl, flush0_6, fun t t' h => ⟨congrFun (((e6 t).symm.trans h).trans (e6 t')) 0, congrFun (((e6 t).symm.trans h).trans (e6 t')) 2⟩⟩
theorem result7 : Result 7 := ⟨rfl, flush0_7, fun t t' h => ⟨congrFun (((e7 t).symm.trans h).trans (e7 t')) 0, congrFun (((e7 t).symm.trans h).trans (e7 t')) 2⟩⟩
theorem result8 : Result 8 := ⟨rfl, flush0_8, fun t t' h => ⟨congrFun (((e8 t).symm.trans h).trans (e8 t')) 0, congrFun (((e8 t).symm.trans h).trans (e8 t')) 1⟩⟩
theorem result9 : Result 9 := ⟨rfl, flush0_9, fun t t' h => ⟨congrFun (((e9 t).symm.trans h).trans (e9 t')) 0, congrFun (((e9 t).symm.trans h).trans (e9 t')) 1⟩⟩
theorem result10 : Result 10 := ⟨rfl, flush0_10, fun t t' h => ⟨congrFun (((e10 t).symm.trans h).trans (e10 t')) 0, congrFun (((e10 t).symm.trans h).trans (e10 t')) 1⟩⟩
theorem result11 : Result 11 := ⟨rfl, flush0_11, fun t t' h => ⟨congrFun (((e11 t).symm.trans h).trans (e11 t')) 0, congrFun (((e11 t).symm.trans h).trans (e11 t')) 1⟩⟩
theorem result12 : Result 12 := ⟨rfl, flush0_12, fun t t' h => ⟨congrFun (((e12 t).symm.trans h).trans (e12 t')) 0, congrFun (((e12 t).symm.trans h).trans (e12 t')) 1⟩⟩

theorem arr5 (b : Fin 2) (h : Fin 8) (s : Fin 16384) (v : Fin 128) : ((dats m 0 c).arrAt 5 cfg0.N : Vec Ideal S2x8x16384x128 .bf16) (ix4 b h s v) = prow m c b s ⟨0 + (128 * h.val + v.val), by omega⟩ * qscale := by
  have e : ((win0_5.blk (lastPt b s)).view.emb (ix4 0 h (rowIn s) v) : S2x8x16384x128.Idx) = ix4 b h s v := by blk_ext [e5, last_batch, last_rows]
  refine (congrArg ((dats m 0 c).arrAt 5 cfg0.N : Vec Ideal S2x8x16384x128 .bf16) e.symm).trans ((result5.at_last m c b s (ix4 0 h (rowIn s) v)).trans ?_)
  show (dats m 0 c).after 5 (lastPt b s) (ix4 0 h (rowIn s) v) = _
  rw [after5]
  exact (queries_apply _ _ h (rowIn s) v).trans (congrArg (fun y => y * qscale) (tile_apply m c b s 0 (inHead h v)))

theorem arr6 (b : Fin 2) (h : Fin 8) (s : Fin 16384) (v : Fin 128) : ((dats m 0 c).arrAt 6 cfg0.N : Vec Ideal S2x8x16384x128 .bf16) (ix4 b h s v) = prow m c b s ⟨1024 + (128 * h.val + v.val), by omega⟩ := by
  have e : ((win0_6.blk (lastPt b s)).view.emb (ix4 0 h (rowIn s) v) : S2x8x16384x128.Idx) = ix4 b h s v := by blk_ext [e6, last_batch, last_rows]
  refine (congrArg ((dats m 0 c).arrAt 6 cfg0.N : Vec Ideal S2x8x16384x128 .bf16) e.symm).trans ((result6.at_last m c b s (ix4 0 h (rowIn s) v)).trans ?_)
  show (dats m 0 c).after 6 (lastPt b s) (ix4 0 h (rowIn s) v) = _
  rw [after6]
  exact (keys_apply _ _ h (rowIn s) v).trans (tile_apply m c b s 1 (inHead h v))

theorem arr7 (b : Fin 2) (h : Fin 8) (s : Fin 16384) (v : Fin 128) : ((dats m 0 c).arrAt 7 cfg0.N : Vec Ideal S2x8x16384x128 .bf16) (ix4 b h s v) = prow m c b s ⟨2048 + (128 * h.val + v.val), by omega⟩ := by
  have e : ((win0_7.blk (lastPt b s)).view.emb (ix4 0 h (rowIn s) v) : S2x8x16384x128.Idx) = ix4 b h s v := by blk_ext [e7, last_batch, last_rows]
  refine (congrArg ((dats m 0 c).arrAt 7 cfg0.N : Vec Ideal S2x8x16384x128 .bf16) e.symm).trans ((result7.at_last m c b s (ix4 0 h (rowIn s) v)).trans ?_)
  show (dats m 0 c).after 7 (lastPt b s) (ix4 0 h (rowIn s) v) = _
  rw [after7]
  exact (vals_apply _ _ h (rowIn s) v).trans (tile_apply m c b s 2 (inHead h v))

theorem arr8 (b : Fin 2) (s : Fin 16384) (n : Fin 1024) : ((dats m 0 c).arrAt 8 cfg0.N : Vec Ideal S2x16384x1024 .bf16) (ix3 b s n) = prow m c b s ⟨3072 + n.val, by omega⟩ := by
  have e : ((win0_8.blk (lastPt b s)).view.emb (ix3 0 (rowIn s) n) : S2x16384x1024.Idx) = ix3 b s n := by blk_ext [e8, last_batch, last_rows]
  refine (congrArg ((dats m 0 c).arrAt 8 cfg0.N : Vec Ideal S2x16384x1024 .bf16) e.symm).trans ((result8.at_last m c b s (ix3 0 (rowIn s) n)).trans ?_)
  show (dats m 0 c).after 8 (lastPt b s) (ix3 0 (rowIn s) n) = _
  rw [after8]
  exact (pay32_apply _ _ (rowIn s) n).trans (tile_apply m c b s 3 n)

theorem arr9 (b : Fin 2) (s : Fin 16384) (n : Fin 1024) : ((dats m 0 c).arrAt 9 cfg0.N : Vec Ideal S2x16384x1024 .bf16) (ix3 b s n) = prow m c b s ⟨4096 + n.val, by omega⟩ := by
  have e : ((win0_9.blk (lastPt b s)).view.emb (ix3 0 (rowIn s) n) : S2x16384x1024.Idx) = ix3 b s n := by blk_ext [e9, last_batch, last_rows]
  refine (congrArg ((dats m 0 c).arrAt 9 cfg0.N : Vec Ideal S2x16384x1024 .bf16) e.symm).trans ((result9.at_last m c b s (ix3 0 (rowIn s) n)).trans ?_)
  show (dats m 0 c).after 9 (lastPt b s) (ix3 0 (rowIn s) n) = _
  rw [after9]
  exact (pay33_apply _ _ (rowIn s) n).trans (tile_apply m c b s 4 n)

theorem arr10 (b : Fin 2) (s : Fin 16384) (n : Fin 1024) : ((dats m 0 c).arrAt 10 cfg0.N : Vec Ideal S2x16384x1024 .bf16) (ix3 b s n) = prow m c b s ⟨5120 + n.val, by omega⟩ := by
  have e : ((win0_10.blk (lastPt b s)).view.emb (ix3 0 (rowIn s) n) : S2x16384x1024.Idx) = ix3 b s n := by blk_ext [e10, last_batch, last_rows]
  refine (congrArg ((dats m 0 c).arrAt 10 cfg0.N : Vec Ideal S2x16384x1024 .bf16) e.symm).trans ((result10.at_last m c b s (ix3 0 (rowIn s) n)).trans ?_)
  show (dats m 0 c).after 10 (lastPt b s) (ix3 0 (rowIn s) n) = _
  rw [after10]
  exact (pay34_apply _ _ (rowIn s) n).trans (tile_apply m c b s 5 n)

theorem arr11 (b : Fin 2) (s : Fin 16384) (n : Fin 1024) : ((dats m 0 c).arrAt 11 cfg0.N : Vec Ideal S2x16384x1024 .bf16) (ix3 b s n) = prow m c b s ⟨6144 + n.val, by omega⟩ := by
  have e : ((win0_11.blk (lastPt b s)).view.emb (ix3 0 (rowIn s) n) : S2x16384x1024.Idx) = ix3 b s n := by blk_ext [e11, last_batch, last_rows]
  refine (congrArg ((dats m 0 c).arrAt 11 cfg0.N : Vec Ideal S2x16384x1024 .bf16) e.symm).trans ((result11.at_last m c b s (ix3 0 (rowIn s) n)).trans ?_)
  show (dats m 0 c).after 11 (lastPt b s) (ix3 0 (rowIn s) n) = _
  rw [after11]
  exact (pay35_apply _ _ (rowIn s) n).trans (tile_apply m c b s 6 n)

theorem arr12 (b : Fin 2) (s : Fin 16384) (n : Fin 128) : ((dats m 0 c).arrAt 12 cfg0.N : Vec Ideal S2x16384x128 .f32) (ix3 b s n) = if h : n.val < 32 then prow m c b s ⟨7168 + n.val, by omega⟩ else 0 := by
  have e : ((win0_12.blk (lastPt b s)).view.emb (ix3 0 (rowIn s) n) : S2x16384x128.Idx) = ix3 b s n := by blk_ext [e12, last_batch, last_rows]
  refine (congrArg ((dats m 0 c).arrAt 12 cfg0.N : Vec Ideal S2x16384x128 .f32) e.symm).trans ((result12.at_last m c b s (ix3 0 (rowIn s) n)).trans ?_)
  show (dats m 0 c).after 12 (lastPt b s) (ix3 0 (rowIn s) n) = _
  rw [after12]
  refine (gates_apply _ _ (rowIn s) n).trans ?_
  by_cases h : n.val < 32
  · rw [dif_pos h]
    unfold prow
    refine Finset.sum_congr rfl fun k _ => congrArg₂ (· * ·) (scr_apply m c b s k) ?_
    exact (iblk4 m c _ k n).trans (dif_pos h)
  · rw [dif_neg h]
    refine Finset.sum_eq_zero fun k _ => ?_
    rw [iblk4, dif_neg h, mul_zero]

end Cert.Kernel5Ideal.InProj
-- ==== Proof.InRef.lean ====
module

public import proofs.«01_k».proof.Proof.InMath
public import proofs.«01_k».proof.Proof.Gen.Reference5Ideal.Run

/-! The reference of the input projections, read at an index. -/

@[expose] public section

set_option maxRecDepth 16384

noncomputable section

namespace Cert.Reference5Ideal.InProj

open Cert.Reference5Ideal Cert.Reference5Ideal.Gen Idealize.ShloMosaic Idealize.ShloMosaic.TcCoe Cert.Ffn
open scoped BigOperators

/-- The normalised, modulated rows times the projections' weights. -/
def proj (x : FVec Ideal S2x16384x2048 .f32) (md : FVec Ideal S2x18432 .f32) (nw : FVec Ideal S2048 .f32) (w : FVec Ideal S2048x7200 .f32) : FVec Ideal S2x16384x7200 .f32 :=
  Host.dotGeneral dot_S2x16384x2048_S2048x7200_S2x16384x7200_2_0_01_1_n_n none (addf (mulf (mulf (mulf x (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf x x) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 nw))) (broadcastInDim S2x16384x2048 ![0, 1, 2] bcast_S2x1x2048_S2x16384x2048_0_1_2 (addf (broadcastInDim S2x1x2048 ![] bcast_S_S2x1x2048 (constant S_ .f32 0x3F800000#32)) (broadcastInDim S2x1x2048 ![0, 2] bcast_S2x2048_S2x1x2048_0_2 (extractStridedSlice S2x2048 ![0, 8192] md slices_S2x18432_S2x2048_0_8192))))) (broadcastInDim S2x16384x2048 ![0, 1, 2] bcast_S2x1x2048_S2x16384x2048_0_1_2 (broadcastInDim S2x1x2048 ![0, 2] bcast_S2x2048_S2x1x2048_0_2 (extractStridedSlice S2x2048 ![0, 6144] md slices_S2x18432_S2x2048_0_6144)))) w

theorem proj_apply (x : FVec Ideal S2x16384x2048 .f32) (md : FVec Ideal S2x18432 .f32) (nw : FVec Ideal S2048 .f32) (w : FVec Ideal S2048x7200 .f32)
    (b : Fin 2) (s : Fin 16384) (j : Fin 7200) :
    proj x md nw w (ix3 b s j) = ∑ k : Fin 2048, normed (fun k => x (ix3 b s k)) (fun k => nw (ix1 k)) (fun k => md (ix2 b ⟨8192 + k.val, by omega⟩))
      (fun k => md (ix2 b ⟨6144 + k.val, by omega⟩)) k * w (ix2 k j) := by
  unfold proj normed rms
  pointwise [mul_assoc]

/-- The heads of a part of the projected rows, heads first. -/
def heads (y : FVec Ideal S2x16384x1024 .f32) : FVec Ideal S2x8x16384x128 .bf16 :=
  truncf .bf16 (transpose S2x8x16384x128 [0, 2, 1, 3] (shapeCast S2x16384x8x128 y shapeCasts_S2x16384x1024_S2x16384x8x128) transposes_S2x16384x8x128_S2x8x16384x128_0_2_1_3) bitsLt_bf16_f32

theorem heads_apply (y : FVec Ideal S2x16384x1024 .f32) (b : Fin 2) (h : Fin 8) (s : Fin 16384) (v : Fin 128) :
    heads y (ix4 b h s v) = y (ix3 b s ⟨128 * h.val + v.val, by omega⟩) := by
  unfold heads
  pointwise
  exact congrArg (fun n => y (ix3 b s n)) (Fin.ext (by show h.val * 128 + v.val = 128 * h.val + v.val; omega))

/-- The queries, scaled. -/
def scaled (p : FVec Ideal S2x16384x7200 .f32) : FVec Ideal S2x16384x1024 .f32 :=
  mulf (extractStridedSlice S2x16384x1024 ![0, 0, 0] p slices_S2x16384x7200_S2x16384x1024_0_0_0) (broadcastInDim S2x16384x1024 ![] bcast_S_S2x16384x1024 (constant S_ .f32 0x3E0293EE#32))

theorem scaled_apply (p : FVec Ideal S2x16384x7200 .f32) (b : Fin 2) (s : Fin 16384) (n : Fin 1024) :
    scaled p (ix3 b s n) = p (ix3 b s ⟨n.val, by omega⟩) * Ideal.ofBits .f32 0x3E0293EE#32 := by
  unfold scaled
  pointwise

theorem part_apply (p : FVec Ideal S2x16384x7200 .f32) (o : ℕ) (hs : Shape.Slices S2x16384x7200 ![0, 0, o] S2x16384x1024) (ho : o + 1024 ≤ 7200)
    (b : Fin 2) (s : Fin 16384) (n : Fin 1024) :
    (extractStridedSlice S2x16384x1024 ![0, 0, o] p hs : FVec Ideal S2x16384x1024 .f32) (ix3 b s n) = p (ix3 b s ⟨o + n.val, by omega⟩) := by
  pointwise

/-- The gates in the first 32 of 128 lanes. -/
def lanes (p : FVec Ideal S2x16384x7200 .f32) : FVec Ideal S2x16384x128 .f32 :=
  pad S2x16384x128 ![0, 0, 0] ![0, 0, 96] ![0, 0, 0] (extractStridedSlice S2x16384x32 ![0, 0, 7168] p slices_S2x16384x7200_S2x16384x32_0_0_7168) (sitofp .f32 (constantI S_ 32 0#32)) pads_S2x16384x32_S2x16384x128_000_000_0960 h_S_

theorem lanes_apply (p : FVec Ideal S2x16384x7200 .f32) (b : Fin 2) (s : Fin 16384) (n : Fin 128) :
    lanes p (ix3 b s n) = if h : n.val < 32 then p (ix3 b s ⟨7168 + n.val, by omega⟩) else 0 := by
  unfold lanes
  pointwise
  exact (congrArg (fun z => if h : n.val < 32 then p (ix3 b s ⟨7168 + n.val, by omega⟩) else z) Cert.Kernel5Ideal.InProj.sitofp_zero)

end Cert.Reference5Ideal.InProj
-- ==== Proof.InClaim.lean ====
module

public import proofs.«01_k».proof.Defs
public import proofs.«01_k».proof.Proof.InPoints
public import proofs.«01_k».proof.Proof.InRef
public import Idealize.ShloMosaic.Lib.Quiescent

/-! The input projections: kernel and reference side by side. -/

@[expose] public section

set_option maxRecDepth 16384

noncomputable section

namespace Cert.Kernel5Ideal.InProj

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The run with each result named. -/
theorem run_results : θ_run defs (onTc (τ := τ) (main (F := Ideal))) ⟨m, fun _ => 0, ρ⟩ (fun r => ∀ c : Dev nD,
      r.2.mem ((c.tc : Thread nD τ).loc main_v7_0) = (dats m 0 c).arrAt 5 cfg0.N
      ∧ r.2.mem ((c.tc : Thread nD τ).loc main_v7_1) = (dats m 0 c).arrAt 6 cfg0.N
      ∧ r.2.mem ((c.tc : Thread nD τ).loc main_v7_2) = (dats m 0 c).arrAt 7 cfg0.N
      ∧ r.2.mem ((c.tc : Thread nD τ).loc main_v7_3) = (dats m 0 c).arrAt 8 cfg0.N
      ∧ r.2.mem ((c.tc : Thread nD τ).loc main_v7_4) = (dats m 0 c).arrAt 9 cfg0.N
      ∧ r.2.mem ((c.tc : Thread nD τ).loc main_v7_5) = (dats m 0 c).arrAt 10 cfg0.N
      ∧ r.2.mem ((c.tc : Thread nD τ).loc main_v7_6) = (dats m 0 c).arrAt 11 cfg0.N
      ∧ r.2.mem ((c.tc : Thread nD τ).loc main_v7_7) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).1 5, (h.1 c).1 6, (h.1 c).1 7, (h.1 c).1 8, (h.1 c).1 9, (h.1 c).1 10, (h.1 c).1 11, (h.1 c).1 12, h.2 c⟩)
    (θ_run_and (run_main m ρ) (frame_of m ρ (dats m) (A_eq m) (run_main m ρ)))

/-- The reference's product, of the kernel's arguments. -/
abbrev product (c : Dev nD) : FVec Ideal Cert.Reference5Ideal.S2x16384x7200 .f32 := Cert.Reference5Ideal.InProj.proj (aX m c) (aM m c) (aN m c) (aW m c)

theorem product_apply (c : Dev nD) (b : Fin 2) (s : Fin 16384) (j : Fin 7200) : product m c (ix3 b s j) = prow m c b s j :=
  Cert.Reference5Ideal.InProj.proj_apply _ _ _ _ b s j

theorem eq5 (c : Dev nD) : (Cert.Reference5Ideal.InProj.heads (Cert.Reference5Ideal.InProj.scaled (product m c)) : FVec Ideal Cert.Reference5Ideal.S2x8x16384x128 .bf16) = (dats m 0 c).arrAt 5 cfg0.N := by
  funext i
  obtain ⟨b, h, s, v, rfl⟩ : ∃ (b : Fin 2) (h : Fin 8) (s : Fin 16384) (v : Fin 128), i = ix4 b h s v := ⟨i 0, i 1, i 2, i 3, by blk_ext⟩
  refine (Cert.Reference5Ideal.InProj.heads_apply _ b h s v).trans (Eq.trans ?_ (arr5 m c b h s v).symm)
  refine (Cert.Reference5Ideal.InProj.scaled_apply _ b s _).trans (congrArg (fun y => y * qscale) ((product_apply m c b s _).trans ?_))
  exact congrArg (prow m c b s) (Fin.ext (by show 128 * h.val + v.val = 0 + (128 * h.val + v.val); omega))

/-- Heads of 1024 columns of the product. -/
theorem heads_eq (c : Dev nD) (o : ℕ) (hs : Shape.Slices Cert.Reference5Ideal.S2x16384x7200 ![0, 0, o] Cert.Reference5Ideal.S2x16384x1024) (ho : o + 1024 ≤ 7200)
    (a : FVec Ideal Cert.Reference5Ideal.S2x8x16384x128 .bf16)
    (ha : ∀ (b : Fin 2) (h : Fin 8) (s : Fin 16384) (v : Fin 128), a (ix4 b h s v) = prow m c b s ⟨o + (128 * h.val + v.val), by omega⟩) :
    Cert.Reference5Ideal.InProj.heads (extractStridedSlice Cert.Reference5Ideal.S2x16384x1024 ![0, 0, o] (product m c) hs) = a := by
  funext i
  obtain ⟨b, h, s, v, rfl⟩ : ∃ (b : Fin 2) (h : Fin 8) (s : Fin 16384) (v : Fin 128), i = ix4 b h s v := ⟨i 0, i 1, i 2, i 3, by blk_ext⟩
  exact (Cert.Reference5Ideal.InProj.heads_apply _ b h s v).trans ((Cert.Reference5Ideal.InProj.part_apply _ o hs ho b s _).trans
    ((product_apply m c b s _).trans (ha b h s v).symm))

/-- 1024 columns of the product. -/
theorem part_eq (c : Dev nD) (o : ℕ) (hs : Shape.Slices Cert.Reference5Ideal.S2x16384x7200 ![0, 0, o] Cert.Reference5Ideal.S2x16384x1024) (ho : o + 1024 ≤ 7200)
    (a : FVec Ideal Cert.Reference5Ideal.S2x16384x1024 .bf16)
    (ha : ∀ (b : Fin 2) (s : Fin 16384) (n : Fin 1024), a (ix3 b s n) = prow m c b s ⟨o + n.val, by omega⟩) :
    (truncf .bf16 (extractStridedSlice Cert.Reference5Ideal.S2x16384x1024 ![0, 0, o] (product m c) hs : FVec Ideal Cert.Reference5Ideal.S2x16384x1024 .f32)
      Cert.Reference5Ideal.Facts₀.bitsLt_bf16_f32 : FVec Ideal Cert.Reference5Ideal.S2x16384x1024 .bf16) = a := by
  funext i
  obtain ⟨b, s, n, rfl⟩ : ∃ (b : Fin 2) (s : Fin 16384) (n : Fin 1024), i = ix3 b s n := ⟨i 0, i 1, i 2, by blk_ext⟩
  exact (Cert.Reference5Ideal.InProj.part_apply (product m c) o hs ho b s n).trans ((product_apply m c b s _).trans (ha b s n).symm)

theorem eq12 (c : Dev nD) : (Cert.Reference5Ideal.InProj.lanes (product m c) : FVec Ideal Cert.Reference5Ideal.S2x16384x128 .f32) = (dats m 0 c).arrAt 12 cfg0.N := by
  funext i
  obtain ⟨b, s, n, rfl⟩ : ∃ (b : Fin 2) (s : Fin 16384) (n : Fin 128), i = ix3 b s n := ⟨i 0, i 1, i 2, by blk_ext⟩
  refine (Cert.Reference5Ideal.InProj.lanes_apply _ b s n).trans (Eq.trans ?_ (arr12 m c b s n).symm)
  by_cases h : n.val < 32
  · rw [dif_pos h, dif_pos h]
    exact product_apply m c b s _
  · rw [dif_neg h, dif_neg h]

end Cert.Kernel5Ideal.InProj

namespace Cert.Proof

open Idealize.ShloMosaic Idealize.SL.Sem

theorem in_frame_ideal [h : Cert.Kernel5Ideal.Facts] : quiescent_Kernel5Ideal (hKernel5Ideal := h) := fun m ρ _ => Cert.Kernel5Ideal.InProj.frame_any m ρ
theorem in_frame_ref [h : Cert.Reference5Ideal.Facts] : quiescent_Reference5Ideal (hReference5Ideal := h) := fun m ρ _ =>
  (θ_run Cert.Reference5Ideal.defs _ _).mono (fun r hr => ⟨fun c => (hr c).2.2.2.2.2.2.2.2, sem_eq_zero_of_no_sems rfl r.2⟩) (Cert.Reference5Ideal.Value.run m ρ)

theorem in_algebraic [Cert.Kernel5Ideal.Facts] [Cert.Reference5Ideal.Facts] : algebraic_Kernel5Ideal_Reference5Ideal := by
  intro m g m' g' _ hm
  refine ⟨fun c => (Cert.Kernel5Ideal.InProj.dats m 0 c).arrAt 5 Cert.Kernel5Ideal.cfg0.N, fun c => (Cert.Kernel5Ideal.InProj.dats m 0 c).arrAt 6 Cert.Kernel5Ideal.cfg0.N, fun c => (Cert.Kernel5Ideal.InProj.dats m 0 c).arrAt 7 Cert.Kernel5Ideal.cfg0.N, fun c => (Cert.Kernel5Ideal.InProj.dats m 0 c).arrAt 8 Cert.Kernel5Ideal.cfg0.N, fun c => (Cert.Kernel5Ideal.InProj.dats m 0 c).arrAt 9 Cert.Kernel5Ideal.cfg0.N, fun c => (Cert.Kernel5Ideal.InProj.dats m 0 c).arrAt 10 Cert.Kernel5Ideal.cfg0.N, fun c => (Cert.Kernel5Ideal.InProj.dats m 0 c).arrAt 11 Cert.Kernel5Ideal.cfg0.N, fun c => (Cert.Kernel5Ideal.InProj.dats m 0 c).arrAt 12 Cert.Kernel5Ideal.cfg0.N, Cert.Kernel5Ideal.InProj.run_results m g, ?_⟩
  refine (θ_run Cert.Reference5Ideal.defs _ _).mono (fun r h c => ?_) (Cert.Reference5Ideal.Value.run m' g')
  obtain ⟨h0, h1, h2, h3⟩ := hm c
  obtain ⟨r0, r1, r2, r3, r4, r5, r6, r7, rest⟩ := h c
  rw [h0, h1, h2, h3] at r0 r1 r2 r3 r4 r5 r6 r7
  exact ⟨r0.trans (Cert.Kernel5Ideal.InProj.eq5 m c), r1.trans (Cert.Kernel5Ideal.InProj.heads_eq m c 1024 _ (by decide) _ (Cert.Kernel5Ideal.InProj.arr6 m c)), r2.trans (Cert.Kernel5Ideal.InProj.heads_eq m c 2048 _ (by decide) _ (Cert.Kernel5Ideal.InProj.arr7 m c)), r3.trans (Cert.Kernel5Ideal.InProj.part_eq m c 3072 _ (by decide) _ (Cert.Kernel5Ideal.InProj.arr8 m c)), r4.trans (Cert.Kernel5Ideal.InProj.part_eq m c 4096 _ (by decide) _ (Cert.Kernel5Ideal.InProj.arr9 m c)), r5.trans (Cert.Kernel5Ideal.InProj.part_eq m c 5120 _ (by decide) _ (Cert.Kernel5Ideal.InProj.arr10 m c)), r6.trans (Cert.Kernel5Ideal.InProj.part_eq m c 6144 _ (by decide) _ (Cert.Kernel5Ideal.InProj.arr11 m c)), r7.trans (Cert.Kernel5Ideal.InProj.eq12 m c), rest⟩

end Cert.Proof
-- ==== Proof.InWords.lean ====
module

public import proofs.«01_k».proof.Defs
public import proofs.«01_k».proof.Proof.InFrame
public import proofs.«01_k».proof.Proof.Gen.Kernel5

/-! The input projections on machine floats: the same text as on extended reals, so the same run. -/

@[expose] public section

set_option maxRecDepth 16384

noncomputable section

namespace Cert.Proof

open Idealize.ShloMosaic Idealize.SL.Sem

theorem in_body : Cert.Kernel5.cc0_inproj (F := Bits) = Cert.Kernel5Ideal.cc0_inproj (F := Bits) := rfl

set_option maxHeartbeats 4000000 in
theorem in_bodies : Cert.Kernel5.defs₀ (F := Bits) = Cert.Kernel5Ideal.defs₀ (F := Bits) := by
  funext p l a
  cases p with
  | tc =>
    match l, a with
    | 0, (t, s) =>
      show Cert.Kernel5.cc0_inproj (F := Bits) _ _ _ _ _ _ _ _ _ _ _ _ _ _ _ _ _ _ _ _ _ _ _ _ _ _ _ _ _ = Cert.Kernel5Ideal.cc0_inproj (F := Bits) _ _ _ _ _ _ _ _ _ _ _ _ _ _ _ _ _ _ _ _ _ _ _ _ _ _ _ _ _
      iterate 29 refine congrFun ?_ _
      exact in_body
  | _ => rfl

theorem in_defs : Cert.Kernel5.defs (F := Bits) = Cert.Kernel5Ideal.defs (F := Bits) :=
  congrArg (Pipeline.defs (Cert.Kernel5Ideal.pcfgs (F := Bits))) in_bodies

theorem in_frame [h : Cert.Kernel5.Facts] : quiescent_Kernel5 (hKernel5 := h) := fun m ρ _ => by
  show θ_run (Cert.Kernel5.defs (F := Bits)) _ _ _
  rw [in_defs]
  exact Cert.Kernel5Ideal.InProj.frame_any (F := Bits) m ρ

end Cert.Proof
-- ==== Proof.ModPoints.lean ====
module

public import proofs.«01_k».proof.Proof.Gen.Kernel6Ideal.Value
public import Idealize.ShloMosaic.Lib.Pipeline.ValueKit
public import Idealize.ShloMosaic.Lib.Pipeline.ReadBack
public import Idealize.ShloMosaic.Lib.Pointwise.Tactic
public import Idealize.ShloMosaic.Lib.Pointwise.Contract
public import Idealize.ShloMosaic.Lib.Pointwise.Reshape
public import Idealize.ShloMosaic.Lib.Pointwise.Sums
public import Idealize.ShloMosaic.Lib.ValueIdx

/-! The modulation's kernel: its blocks as parts of the arguments, and its result. -/

@[expose] public section

set_option maxRecDepth 16384

noncomputable section

namespace Cert.Kernel6Ideal.Mod

open Cert.Kernel6Ideal Cert.Kernel6Ideal.Gen Idealize.ShloMosaic Idealize.ShloMosaic.TcCoe
open scoped BigOperators

variable (m : (ℓ : Loc nD τ sig) → Buf (Elt Ideal) ℓ) (c : Dev nD)

/-- One entry of the modulation: the conditioning's `silu` against a column of weights, and the bias. -/
def entry (y : Fin 2048 → EReal) (w : Fin 2048 → EReal) (b : EReal) : EReal := (∑ k, y k * Ideal.logistic (y k) * w k) + b

/-- What the body stores, of the blocks it reads. -/
theorem out_apply (y : Vec Ideal S8x2048 .f32) (w : Vec Ideal S2048x1024 .f32) (b : Vec Ideal S1x1024 .f32) (r : Fin 8) (n : Fin 1024) :
    out0_3 (F := Ideal) y w b (ix2 r n) = entry (fun k => y (ix2 r k)) (fun k => w (ix2 k n)) (b (ix2 0 n)) := by
  frame_out
  unfold k0_pay1 entry
  pointwise

/-- The arguments' arrays. -/
abbrev aC : Vec Ideal S8x2048 .f32 := m ((c.tc : Thread nD τ).loc main_arg0)
abbrev aW : Vec Ideal S2048x18432 .f32 := m ((c.tc : Thread nD τ).loc main_arg1)
abbrev aB : Vec Ideal S18432 .f32 := m ((c.tc : Thread nD τ).loc main_arg2)

theorem V0 : (V m c main_v0 : Vec Ideal S1x18432 .f32) = shapeCast S1x18432 (aB m c) shapeCasts_S18432_S1x18432 := by
  dsimp only [V, hostOps0]; after_results_simp; rfl

theorem e0 : ∀ t : Fin cfg0.N, win0_0.index t = ![0, 0] := (by decide +kernel : ∀ t : Fin grid0.N, _)
theorem e1 : ∀ t : Fin cfg0.N, win0_1.index t = ![0, t.val] := (by decide +kernel : ∀ t : Fin grid0.N, _)
theorem e2 : ∀ t : Fin cfg0.N, win0_2.index t = ![0, t.val] := (by decide +kernel : ∀ t : Fin grid0.N, _)
theorem e3 : ∀ t : Fin cfg0.N, win0_3.index t = ![0, t.val] := (by decide +kernel : ∀ t : Fin grid0.N, _)

theorem lt18 (t : Fin cfg0.N) : t.val < 18 := t.isLt

/-- The column of point `t`'s block column `n`. -/
def col (t : Fin cfg0.N) (n : Fin 1024) : Fin 18432 := ⟨1024 * t.val + n.val, by have := lt18 t; omega⟩

theorem iblk0 (t : Fin cfg0.N) (r : Fin 8) (k : Fin 2048) : (iblk m c 0 t : Vec Ideal S8x2048 .f32) (ix2 r k) = aC m c (ix2 r k) := by
  blk_simp [iblk]
  rw [V_main_arg0]
  blk_ext [e0]

theorem iblk1 (t : Fin cfg0.N) (k : Fin 2048) (n : Fin 1024) : (iblk m c 1 t : Vec Ideal S2048x1024 .f32) (ix2 k n) = aW m c (ix2 k (col t n)) := by
  blk_simp [iblk]
  rw [V_main_arg1]
  blk_ext [e1, col]

theorem iblk2 (t : Fin cfg0.N) (n : Fin 1024) : (iblk m c 2 t : Vec Ideal S1x1024 .f32) (ix2 0 n) = aB m c (ix1 (col t n)) := by
  blk_simp [iblk]
  have e : ((win0_2.blk t).view.emb (ix2 0 n) : S1x18432.Idx) = ix2 0 (col t n) := by blk_ext [e2, col]
  rw [e]
  refine (congrFun (V0 m c) (ix2 0 (col t n))).trans ?_
  pointwise

/-- The kernel's result at an index. -/
theorem arr_apply (r : Fin 8) (j : Fin 18432) :
    ((dats m 0 c).arrAt 3 cfg0.N : Vec Ideal S8x18432 .f32) (ix2 r j) = entry (fun k => aC m c (ix2 r k)) (fun k => aW m c (ix2 k j)) (aB m c (ix1 j)) := by
  have hlt : j.val / 1024 < cfg0.N := by
    show _ < 18
    omega
  have hn : j.val % 1024 < 1024 := Nat.mod_lt _ (by decide)
  have hj : col ⟨j.val / 1024, hlt⟩ ⟨j.val % 1024, hn⟩ = j := Fin.ext (by show 1024 * (j.val / 1024) + j.val % 1024 = j.val; omega)
  have hf : ∀ t : Fin cfg0.N, (cfg0.win 3).flush t = true := (by decide +kernel : ∀ t : Fin grid0.N, win0_3.flush t = true)
  have key := congrFun (Value.blocks3 m c ⟨j.val / 1024, hlt⟩ (hf _)) (ix2 r ⟨j.val % 1024, hn⟩)
  rw [Value.flushed3] at key
  have e : ((win0_3.blk ⟨j.val / 1024, hlt⟩).view.emb (ix2 r ⟨j.val % 1024, hn⟩) : S8x18432.Idx) = ix2 r j := by blk_ext [e3]
  refine (congrArg ((dats m 0 c).arrAt 3 cfg0.N : Vec Ideal S8x18432 .f32) e.symm).trans (key.trans ?_)
  refine (show _ = out0_3 (iblk m c 0 ⟨j.val / 1024, hlt⟩) (iblk m c 1 ⟨j.val / 1024, hlt⟩) (iblk m c 2 ⟨j.val / 1024, hlt⟩) (ix2 r ⟨j.val % 1024, hn⟩) from rfl).trans ?_
  refine (out_apply _ _ _ r _).trans ?_
  simp only [iblk0, iblk1, iblk2, hj]

end Cert.Kernel6Ideal.Mod
-- ==== Proof.ModClaim.lean ====
module

public import proofs.«01_k».proof.Defs
public import proofs.«01_k».proof.Proof.ModPoints
public import proofs.«01_k».proof.Proof.Gen.Reference6Ideal.Run
public import Idealize.ShloMosaic.Lib.Quiescent
public import proofs.«01_k».proof.Proof.Gen.Kernel6.Frame

/-! The modulation: kernel and reference side by side. -/

@[expose] public section

set_option maxRecDepth 16384

noncomputable section

namespace Cert.Reference6Ideal.Mod

open Cert.Reference6Ideal Cert.Reference6Ideal.Gen Idealize.ShloMosaic Cert.Kernel6Ideal.Mod

/-- The reference's result, of its arguments. -/
def res (y : FVec Ideal S8x2048 .f32) (w : FVec Ideal S2048x18432 .f32) (b : FVec Ideal S18432 .f32) : FVec Ideal S8x18432 .f32 :=
  addf (Host.dotGeneral dot_S8x2048_S2048x18432_S8x18432_1_0_0_1_n_n none (mulf y (Host.divf (broadcastInDim S8x2048 ![] bcast_S_S8x2048 (constant S_ .f32 0x3F800000#32)) (addf (broadcastInDim S8x2048 ![] bcast_S_S8x2048 (constant S_ .f32 0x3F800000#32)) (Host.exp (Host.negf y))))) w) (broadcastInDim S8x18432 ![0, 1] bcast_S1x18432_S8x18432_0_1 (broadcastInDim S1x18432 ![1] bcast_S18432_S1x18432_1 b))

theorem res_apply (y : FVec Ideal S8x2048 .f32) (w : FVec Ideal S2048x18432 .f32) (b : FVec Ideal S18432 .f32) (r : Fin 8) (j : Fin 18432) :
    res y w b (ix2 r j) = entry (fun k => y (ix2 r k)) (fun k => w (ix2 k j)) (b (ix1 j)) := by
  unfold res entry Ideal.logistic
  pointwise

end Cert.Reference6Ideal.Mod

namespace Cert.Proof

open Idealize.ShloMosaic Idealize.SL.Sem

/-- One value of both programs' results, entry by entry. -/
theorem mod_eq (m : (ℓ : Loc Cert.Kernel6Ideal.nD Cert.Kernel6Ideal.τ Cert.Kernel6Ideal.sig) → Buf (Elt Ideal) ℓ) (c : Dev Cert.Kernel6Ideal.nD) :
    Cert.Reference6Ideal.Mod.res (Cert.Kernel6Ideal.Mod.aC m c) (Cert.Kernel6Ideal.Mod.aW m c) (Cert.Kernel6Ideal.Mod.aB m c) = (Cert.Kernel6Ideal.Gen.dats m 0 c).arrAt 3 Cert.Kernel6Ideal.cfg0.N := by
  funext i
  obtain ⟨r, j, rfl⟩ : ∃ (r : Fin 8) (j : Fin 18432), i = ix2 r j := ⟨i 0, i 1, by blk_ext⟩
  exact (Cert.Reference6Ideal.Mod.res_apply _ _ _ r j).trans (Cert.Kernel6Ideal.Mod.arr_apply m c r j).symm

theorem mod_frame [h : Cert.Kernel6.Facts] : quiescent_Kernel6 (hKernel6 := h) := fun m ρ _ => Cert.Kernel6.Gen.frame m ρ
theorem mod_frame_ideal [h : Cert.Kernel6Ideal.Facts] : quiescent_Kernel6Ideal (hKernel6Ideal := h) := fun m ρ _ => Cert.Kernel6Ideal.Gen.frame m ρ
theorem mod_frame_ref [h : Cert.Reference6Ideal.Facts] : quiescent_Reference6Ideal (hReference6Ideal := h) := fun m ρ _ =>
  (θ_run Cert.Reference6Ideal.defs _ _).mono (fun r hr => ⟨fun c => (hr c).2, sem_eq_zero_of_no_sems rfl r.2⟩) (Cert.Reference6Ideal.Value.run m ρ)

theorem mod_algebraic [Cert.Kernel6Ideal.Facts] [Cert.Reference6Ideal.Facts] : algebraic_Kernel6Ideal_Reference6Ideal := by
  intro m g m' g' _ hm
  refine ⟨fun c => (Cert.Kernel6Ideal.Gen.dats m 0 c).arrAt 3 Cert.Kernel6Ideal.cfg0.N, Cert.Kernel6Ideal.Value.run_blocks m g, ?_⟩
  refine (θ_run Cert.Reference6Ideal.defs _ _).mono (fun r h c => ?_) (Cert.Reference6Ideal.Value.run m' g')
  obtain ⟨h0, h1, h2⟩ := hm c
  have hr := (h c).1
  rw [h0, h1, h2] at hr
  exact ⟨hr.trans (mod_eq m c), (h c).2⟩

end Cert.Proof
-- ==== Proof.lean ====
module

public import proofs.«01_k».proof.Defs
public import proofs.«01_k».proof.Proof.FfnClaim
public import proofs.«01_k».proof.Proof.FfnOneClaim
public import proofs.«01_k».proof.Proof.OutClaim
public import proofs.«01_k».proof.Proof.InClaim
public import proofs.«01_k».proof.Proof.InWords
public import proofs.«01_k».proof.Proof.ModClaim
public import proofs.«01_k».proof.Proof.Gen.Kernel2
public import proofs.«01_k».proof.Proof.Gen.Kernel3
public import proofs.«01_k».proof.Proof.Gen.Kernel2.Frame
public import proofs.«01_k».proof.Proof.Gen.Kernel3.Frame
public import proofs.«01_k».proof.Proof.Gen.Kernel2Ideal
public import proofs.«01_k».proof.Proof.Gen.Kernel3Ideal
public import proofs.«01_k».proof.Proof.Gen.Kernel2Ideal.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference2Ideal
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Skeleton
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run

@[expose] public section

noncomputable section

namespace Cert.Proof

open Idealize.ShloMosaic Idealize.SL.Sem

theorem claim : Cert.Claim :=
  ⟨Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   ffn2_frame, ffn2_frame_ideal, ffn2_frame_ref, ffn1_frame, ffn1_frame_ideal, ffn1_frame_ref,
   out_frame, out_frame_ideal, out_frame_ref, in_frame, in_frame_ideal, in_frame_ref,
   mod_frame, mod_frame_ideal, mod_frame_ref,
   trivial, ffn2_algebraic, trivial, ffn1_algebraic, trivial, out_algebraic, trivial, in_algebraic,
   trivial, mod_algebraic⟩

end Cert.Proof

end
